-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S36x96x1536 : Shape := ⟨3, ![36, 96, 1536]⟩
abbrev S36x80x128 : Shape := ⟨3, ![36, 80, 128]⟩
abbrev S36x1536x512 : Shape := ⟨3, ![36, 1536, 512]⟩
abbrev S36x512 : Shape := ⟨2, ![36, 512]⟩
abbrev S36x512x1536 : Shape := ⟨3, ![36, 512, 1536]⟩
abbrev S36x1536 : Shape := ⟨2, ![36, 1536]⟩
abbrev S36x960x128 : Shape := ⟨3, ![36, 960, 128]⟩
abbrev S13x1536x512 : Shape := ⟨3, ![13, 1536, 512]⟩
abbrev S13x512x1536 : Shape := ⟨3, ![13, 512, 1536]⟩
abbrev S2x96x512 : Shape := ⟨3, ![2, 96, 512]⟩
abbrev S2x80x128 : Shape := ⟨3, ![2, 80, 128]⟩
abbrev S2x960x128 : Shape := ⟨3, ![2, 960, 128]⟩
abbrev S6 : Shape := ⟨1, ![6]⟩
abbrev S13 : Shape := ⟨1, ![13]⟩
abbrev S1 : Shape := ⟨1, ![1]⟩
abbrev S_ : Shape := ⟨0, ![]⟩
abbrev S1x1536x512 : Shape := ⟨3, ![1, 1536, 512]⟩
abbrev S1536x512 : Shape := ⟨2, ![1536, 512]⟩
abbrev S1x512x1536 : Shape := ⟨3, ![1, 512, 1536]⟩
abbrev S512x1536 : Shape := ⟨2, ![512, 1536]⟩
abbrev S1x96x1536 : Shape := ⟨3, ![1, 96, 1536]⟩
abbrev S96x1536 : Shape := ⟨2, ![96, 1536]⟩
abbrev S96x512 : Shape := ⟨2, ![96, 512]⟩
abbrev S80x512 : Shape := ⟨2, ![80, 512]⟩
abbrev S1x80x128 : Shape := ⟨3, ![1, 80, 128]⟩
abbrev S80x128 : Shape := ⟨2, ![80, 128]⟩
abbrev S80x1 : Shape := ⟨2, ![80, 1]⟩
abbrev S1x512 : Shape := ⟨2, ![1, 512]⟩
abbrev S80 : Shape := ⟨1, ![80]⟩
abbrev S16x512 : Shape := ⟨2, ![16, 512]⟩
abbrev S1x96x512 : Shape := ⟨3, ![1, 96, 512]⟩
abbrev S1x512x512 : Shape := ⟨3, ![1, 512, 512]⟩
abbrev S512x512 : Shape := ⟨2, ![512, 512]⟩
abbrev S8x128 : Shape := ⟨2, ![8, 128]⟩
abbrev S1x8x128 : Shape := ⟨3, ![1, 8, 128]⟩
abbrev S1x960x128 : Shape := ⟨3, ![1, 960, 128]⟩
abbrev S960x128 : Shape := ⟨2, ![960, 128]⟩

abbrev nBuf : Space → Nat
  | .hbm => 10
  | .vmem => 13
  | .smem => 0
  | _ => 0

abbrev bufTy : (tb : Table) → Fin (tcTables nBuf tb) → BufTy
  | .hbm, ⟨0, _⟩ => ⟨S36x96x1536, .fp8e4m3⟩
  | .hbm, ⟨1, _⟩ => ⟨S36x80x128, .f32⟩
  | .hbm, ⟨2, _⟩ => ⟨S36x80x128, .f32⟩
  | .hbm, ⟨3, _⟩ => ⟨S36x1536x512, .fp8e4m3⟩
  | .hbm, ⟨4, _⟩ => ⟨S36x1536x512, .fp8e4m3⟩
  | .hbm, ⟨5, _⟩ => ⟨S36x512, .f32⟩
  | .hbm, ⟨6, _⟩ => ⟨S36x512, .f32⟩
  | .hbm, ⟨7, _⟩ => ⟨S36x512x1536, .fp8e4m3⟩
  | .hbm, ⟨8, _⟩ => ⟨S36x1536, .f32⟩
  | .hbm, ⟨9, _⟩ => ⟨S36x960x128, .f32⟩
  | .local _ .vmem, ⟨0, _⟩ => ⟨S36x96x1536, .fp8e4m3⟩
  | .local _ .vmem, ⟨1, _⟩ => ⟨S36x80x128, .f32⟩
  | .local _ .vmem, ⟨2, _⟩ => ⟨S36x80x128, .f32⟩
  | .local _ .vmem, ⟨3, _⟩ => ⟨S36x960x128, .f32⟩
  | .local _ .vmem, ⟨4, _⟩ => ⟨S13x1536x512, .fp8e4m3⟩
  | .local _ .vmem, ⟨5, _⟩ => ⟨S13x1536x512, .fp8e4m3⟩
  | .local _ .vmem, ⟨6, _⟩ => ⟨S13x512x1536, .fp8e4m3⟩
  | .local _ .vmem, ⟨7, _⟩ => ⟨S36x512, .f32⟩
  | .local _ .vmem, ⟨8, _⟩ => ⟨S36x512, .f32⟩
  | .local _ .vmem, ⟨9, _⟩ => ⟨S36x1536, .f32⟩
  | .local _ .vmem, ⟨10, _⟩ => ⟨S2x96x512, .fp8e4m3⟩
  | .local _ .vmem, ⟨11, _⟩ => ⟨S2x80x128, .f32⟩
  | .local _ .vmem, ⟨12, _⟩ => ⟨S2x960x128, .f32⟩
  | _, _ => ⟨S36x96x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (c0_i32_268 : BitVec 32) : Fin 1 → Nat :=
  let c13_i32 : BitVec 32 := 13#32
  let v250 : BitVec 32 := Scalar.remsi c0_i32_268 c13_i32
  ![v250.toNat]
def k0_off1_at (r : Fin 3) : BitVec 32 :=
  if r.val < 1 then
    0#32
  else
    if r.val < 2 then
      1#32
    else
      35#32
def k0_off2 (c0_i32_268 : BitVec 32) : Fin 3 → Nat :=
  let c13_i32 : BitVec 32 := 13#32
  let v250 : BitVec 32 := Scalar.remsi c0_i32_268 c13_i32
  let c0_i32_270 : BitVec 32 := 0#32
  let c0_i32_271 : BitVec 32 := 0#32
  ![v250.toNat, 0, 0]
def k0_off3 (c0_i32_268 : BitVec 32) : Fin 3 → Nat :=
  let c13_i32 : BitVec 32 := 13#32
  let v250 : BitVec 32 := Scalar.remsi c0_i32_268 c13_i32
  let v265 : Index := Scalar.indexCast v250
  let c0_282 : Index := 0#32
  let c0_283 : Index := 0#32
  ![v265.toNat, 0, 0]
def k0_off4 (c0_i32_374 : BitVec 32) : Fin 3 → Nat :=
  let c13_i32_375 : BitVec 32 := 13#32
  let v437 : BitVec 32 := Scalar.remsi c0_i32_374 c13_i32_375
  let c0_i32_377 : BitVec 32 := 0#32
  let c0_i32_378 : BitVec 32 := 0#32
  ![v437.toNat, 0, 0]
def k0_off5 (c0_i32_374 : BitVec 32) : Fin 3 → Nat :=
  let c13_i32_375 : BitVec 32 := 13#32
  let v437 : BitVec 32 := Scalar.remsi c0_i32_374 c13_i32_375
  let v452 : Index := Scalar.indexCast v437
  let c0_390 : Index := 0#32
  let c0_391 : Index := 0#32
  ![v452.toNat, 0, 0]
def k0_off6 (c0_i32_374 : BitVec 32) : Fin 3 → Nat :=
  let c13_i32_375 : BitVec 32 := 13#32
  let v437 : BitVec 32 := Scalar.remsi c0_i32_374 c13_i32_375
  let v626 : Index := Scalar.indexCast v437
  let c0_480 : Index := 0#32
  let c512 : Index := 512#32
  ![v626.toNat, 0, 512]
def k0_off7 (c0_i32_374 : BitVec 32) : Fin 3 → Nat :=
  let c13_i32_375 : BitVec 32 := 13#32
  let v437 : BitVec 32 := Scalar.remsi c0_i32_374 c13_i32_375
  let v800 : Index := Scalar.indexCast v437
  let c0_567 : Index := 0#32
  let c1024 : Index := 1024#32
  ![v800.toNat, 0, 1024]
@[reducible] def k0_t1_loop : Scf.Loop 32 :=
  let c1_i32_669 : BitVec 32 := 1#32
  let c17_i32 : BitVec 32 := 17#32
  let v992 : BitVec 32 := Scalar.addi c1_i32_669 c17_i32
  let c1_i32_670 : BitVec 32 := 1#32
  ⟨c1_i32_669, v992, c1_i32_670⟩
def k0_off8 (k0_t1 : Fin k0_t1_loop.trips) (c0_i32_1079 : BitVec 32) : Fin 1 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c13_i32_1080 : BitVec 32 := 13#32
  let v1540 : BitVec 32 := Scalar.remsi v1539 c13_i32_1080
  ![v1540.toNat]
def k0_off9 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c13_i32_1080 : BitVec 32 := 13#32
  let v1540 : BitVec 32 := Scalar.remsi v1539 c13_i32_1080
  let c0_i32_1081 : BitVec 32 := 0#32
  let c0_i32_1082 : BitVec 32 := 0#32
  ![v1540.toNat, 0, 0]
def k0_off10 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c0_i32_1083 : BitVec 32 := 0#32
  let c0_i32_1084 : BitVec 32 := 0#32
  ![v1539.toNat, 0, 0]
def k0_off11 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let v1553 : Index := Scalar.indexCast v1539
  let c0_1089 : Index := 0#32
  let c0_1090 : Index := 0#32
  ![v1553.toNat, 0, 0]
def k0_off12 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c13_i32_1080 : BitVec 32 := 13#32
  let v1540 : BitVec 32 := Scalar.remsi v1539 c13_i32_1080
  let v1556 : Index := Scalar.indexCast v1540
  let c0_1091 : Index := 0#32
  let c0_1092 : Index := 0#32
  ![v1556.toNat, 0, 0]
def k0_off13 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let v1566 : Index := Scalar.indexCast v1539
  let c0_1097 : Index := 0#32
  let c0_1098 : Index := 0#32
  ![v1566.toNat, 0, 0]
def k0_off14 (k0_t1 : Fin k0_t1_loop.trips) (c0_i32_1079 : BitVec 32) : Fin 2 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let v1572 : Index := Scalar.indexCast v1539
  let c0_1099 : Index := 0#32
  ![v1572.toNat, 0]
def k0_off15 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c2_i32_1121 : BitVec 32 := 2#32
  let v1631 : BitVec 32 := Scalar.subi v1539 c2_i32_1121
  let v1634 : Index := Scalar.indexCast v1631
  let c0_1125 : Index := 0#32
  let c0_1126 : Index := 0#32
  ![v1634.toNat, 0, 0]
def k0_off16 (k0_t1 : Fin k0_t1_loop.trips) (c0_i32_1079 : BitVec 32) : Fin 1 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c13_i32_1128 : BitVec 32 := 13#32
  let v1639 : BitVec 32 := Scalar.remsi v1638 c13_i32_1128
  ![v1639.toNat]
def k0_off17 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c13_i32_1128 : BitVec 32 := 13#32
  let v1639 : BitVec 32 := Scalar.remsi v1638 c13_i32_1128
  let c0_i32_1129 : BitVec 32 := 0#32
  let c0_i32_1130 : BitVec 32 := 0#32
  ![v1639.toNat, 0, 0]
def k0_off18 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c0_i32_1131 : BitVec 32 := 0#32
  let c0_i32_1132 : BitVec 32 := 0#32
  ![v1638.toNat, 0, 0]
def k0_off19 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let v1649 : Index := Scalar.indexCast v1638
  let c0_1136 : Index := 0#32
  let c0_1137 : Index := 0#32
  ![v1649.toNat, 0, 0]
def k0_off20 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c13_i32_1128 : BitVec 32 := 13#32
  let v1639 : BitVec 32 := Scalar.remsi v1638 c13_i32_1128
  let v1655 : Index := Scalar.indexCast v1639
  let c0_1141 : Index := 0#32
  let c0_1142 : Index := 0#32
  ![v1655.toNat, 0, 0]
def k0_off21 (k0_t1 : Fin k0_t1_loop.trips) (c0_i32_1079 : BitVec 32) : Fin 2 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let v1662 : Index := Scalar.indexCast v1638
  let c0_1144 : Index := 0#32
  ![v1662.toNat, 0]
def k0_off22 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c13_i32_1128 : BitVec 32 := 13#32
  let v1639 : BitVec 32 := Scalar.remsi v1638 c13_i32_1128
  let v1830 : Index := Scalar.indexCast v1639
  let c0_1268 : Index := 0#32
  let c512_1269 : Index := 512#32
  ![v1830.toNat, 0, 512]
def k0_off23 (k0_t1 : Fin k0_t1_loop.trips) (c0_i32_1079 : BitVec 32) : Fin 2 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let v1837 : Index := Scalar.indexCast v1638
  let c512_1271 : Index := 512#32
  ![v1837.toNat, 512]
def k0_off24 (k0_t1 : Fin k0_t1_loop.trips) (c0_i32_1079 : BitVec 32) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let c13_i32_1128 : BitVec 32 := 13#32
  let v1639 : BitVec 32 := Scalar.remsi v1638 c13_i32_1128
  let v2005 : Index := Scalar.indexCast v1639
  let c0_1395 : Index := 0#32
  let c1024_1396 : Index := 1024#32
  ![v2005.toNat, 0, 1024]
def k0_off25 (k0_t1 : Fin k0_t1_loop.trips) (c0_i32_1079 : BitVec 32) : Fin 2 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let v1539 : BitVec 32 := Scalar.addi v1538 c0_i32_1079
  let c1_i32_1127 : BitVec 32 := 1#32
  let v1638 : BitVec 32 := Scalar.subi v1539 c1_i32_1127
  let v2012 : Index := Scalar.indexCast v1638
  let c1024_1398 : Index := 1024#32
  ![v2012.toNat, 1024]
def k0_cond1 (k0_t1 : Fin k0_t1_loop.trips) : BitVec 1 :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c13_i32_1520 : BitVec 32 := 13#32
  let v2179 : BitVec 32 := Scalar.addi v1539 c13_i32_1520
  let c36_i32 : BitVec 32 := 36#32
  let v2180 : BitVec 1 := Scalar.cmpi .slt v2179 c36_i32
  let v2181 : BitVec 32 := Scalar.extui v2180
  let c0_i32_1521 : BitVec 32 := 0#32
  let v2182 : BitVec 1 := Scalar.cmpi .ne v2181 c0_i32_1521
  v2182

def k0_off26 (k0_t1 : Fin k0_t1_loop.trips) : Fin 1 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c13_i32_1519 : BitVec 32 := 13#32
  let v2178 : BitVec 32 := Scalar.remsi v1539 c13_i32_1519
  ![v2178.toNat]
def k0_off27 (k0_t1 : Fin k0_t1_loop.trips) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c13_i32_1519 : BitVec 32 := 13#32
  let v2178 : BitVec 32 := Scalar.remsi v1539 c13_i32_1519
  let c0_i32_1978 : BitVec 32 := 0#32
  let c0_i32_1979 : BitVec 32 := 0#32
  ![v2178.toNat, 0, 0]
def k0_off28 (k0_t1 : Fin k0_t1_loop.trips) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c13_i32_1977 : BitVec 32 := 13#32
  let v2840 : BitVec 32 := Scalar.addi v1539 c13_i32_1977
  let c0_i32_1980 : BitVec 32 := 0#32
  let c0_i32_1981 : BitVec 32 := 0#32
  ![v2840.toNat, 0, 0]
def k0_cond2 (k0_t1 : Fin k0_t1_loop.trips) : BitVec 1 :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c1_i32_1522 : BitVec 32 := 1#32
  let v2183 : BitVec 32 := Scalar.subi v1539 c1_i32_1522
  let c13_i32_1524 : BitVec 32 := 13#32
  let v2185 : BitVec 32 := Scalar.addi v2183 c13_i32_1524
  let c36_i32_1525 : BitVec 32 := 36#32
  let v2186 : BitVec 1 := Scalar.cmpi .slt v2185 c36_i32_1525
  let v2187 : BitVec 32 := Scalar.extui v2186
  let c0_i32_1526 : BitVec 32 := 0#32
  let v2188 : BitVec 1 := Scalar.cmpi .ne v2187 c0_i32_1526
  v2188

def k0_off29 (k0_t1 : Fin k0_t1_loop.trips) : Fin 1 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c1_i32_1522 : BitVec 32 := 1#32
  let v2183 : BitVec 32 := Scalar.subi v1539 c1_i32_1522
  let c13_i32_1523 : BitVec 32 := 13#32
  let v2184 : BitVec 32 := Scalar.remsi v2183 c13_i32_1523
  ![v2184.toNat]
def k0_off30 (k0_t1 : Fin k0_t1_loop.trips) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c1_i32_1522 : BitVec 32 := 1#32
  let v2183 : BitVec 32 := Scalar.subi v1539 c1_i32_1522
  let c13_i32_1523 : BitVec 32 := 13#32
  let v2184 : BitVec 32 := Scalar.remsi v2183 c13_i32_1523
  let c0_i32_1978 : BitVec 32 := 0#32
  let c0_i32_1979 : BitVec 32 := 0#32
  ![v2184.toNat, 0, 0]
def k0_off31 (k0_t1 : Fin k0_t1_loop.trips) : Fin 3 → Nat :=
  let c2_i32_1078 : BitVec 32 := 2#32
  let c1_i32_669 : BitVec 32 := 1#32
  let c1_i32_670 : BitVec 32 := 1#32
  let arg23 : BitVec 32 := Scf.iv c1_i32_669 c1_i32_670 k0_t1
  let v1538 : BitVec 32 := Scalar.muli c2_i32_1078 arg23
  let c0_i32_1079 : BitVec 32 := 0#32
  let v1539 : BitVec 32 := Scalar.addi v1538 c0_i32_1079
  let c1_i32_1522 : BitVec 32 := 1#32
  let v2183 : BitVec 32 := Scalar.subi v1539 c1_i32_1522
  let c13_i32_1977 : BitVec 32 := 13#32
  let v2840 : BitVec 32 := Scalar.addi v2183 c13_i32_1977
  let c0_i32_1980 : BitVec 32 := 0#32
  let c0_i32_1981 : BitVec 32 := 0#32
  ![v2840.toNat, 0, 0]
def k0_cond3 (k0_t1 : Fin k0_t1_loop.trips) : BitVec 1 :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c13_i32_1969 : BitVec 32 := 13#32
  let v2830 : BitVec 32 := Scalar.addi v2190 c13_i32_1969
  let c36_i32_1970 : BitVec 32 := 36#32
  let v2831 : BitVec 1 := Scalar.cmpi .slt v2830 c36_i32_1970
  let v2832 : BitVec 32 := Scalar.extui v2831
  let c0_i32_1971 : BitVec 32 := 0#32
  let v2833 : BitVec 1 := Scalar.cmpi .ne v2832 c0_i32_1971
  v2833

def k0_off32 (k0_t1 : Fin k0_t1_loop.trips) : Fin 1 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c13_i32_1968 : BitVec 32 := 13#32
  let v2829 : BitVec 32 := Scalar.remsi v2190 c13_i32_1968
  ![v2829.toNat]
def k0_off33 (k0_t1 : Fin k0_t1_loop.trips) : Fin 3 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c13_i32_1968 : BitVec 32 := 13#32
  let v2829 : BitVec 32 := Scalar.remsi v2190 c13_i32_1968
  let c0_i32_1978 : BitVec 32 := 0#32
  let c0_i32_1979 : BitVec 32 := 0#32
  ![v2829.toNat, 0, 0]
def k0_off34 (k0_t1 : Fin k0_t1_loop.trips) : Fin 3 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c13_i32_1977 : BitVec 32 := 13#32
  let v2840 : BitVec 32 := Scalar.addi v2190 c13_i32_1977
  let c0_i32_1980 : BitVec 32 := 0#32
  let c0_i32_1981 : BitVec 32 := 0#32
  ![v2840.toNat, 0, 0]
def k0_cond4 (k0_t1 : Fin k0_t1_loop.trips) : BitVec 1 :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c1_i32_1972 : BitVec 32 := 1#32
  let v2834 : BitVec 32 := Scalar.subi v2190 c1_i32_1972
  let c13_i32_1974 : BitVec 32 := 13#32
  let v2836 : BitVec 32 := Scalar.addi v2834 c13_i32_1974
  let c36_i32_1975 : BitVec 32 := 36#32
  let v2837 : BitVec 1 := Scalar.cmpi .slt v2836 c36_i32_1975
  let v2838 : BitVec 32 := Scalar.extui v2837
  let c0_i32_1976 : BitVec 32 := 0#32
  let v2839 : BitVec 1 := Scalar.cmpi .ne v2838 c0_i32_1976
  v2839

def k0_off35 (k0_t1 : Fin k0_t1_loop.trips) : Fin 1 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c1_i32_1972 : BitVec 32 := 1#32
  let v2834 : BitVec 32 := Scalar.subi v2190 c1_i32_1972
  let c13_i32_1973 : BitVec 32 := 13#32
  let v2835 : BitVec 32 := Scalar.remsi v2834 c13_i32_1973
  ![v2835.toNat]
def k0_off36 (k0_t1 : Fin k0_t1_loop.trips) : Fin 3 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c1_i32_1972 : BitVec 32 := 1#32
  let v2834 : BitVec 32 := Scalar.subi v2190 c1_i32_1972
  let c13_i32_1973 : BitVec 32 := 13#32
  let v2835 : BitVec 32 := Scalar.remsi v2834 c13_i32_1973
  let c0_i32_1978 : BitVec 32 := 0#32
  let c0_i32_1979 : BitVec 32 := 0#32
  ![v2835.toNat, 0, 0]
def k0_off37 (k0_t1 : Fin k0_t1_loop.trips) : Fin 3 → Nat :=
  let c2_i32_1527 : BitVec 32 := 2#32
  let c1_i32_669 : BitVec 32 := 1#32
  let c1_i32_670 : BitVec 32 := 1#32
  let arg23 : BitVec 32 := Scf.iv c1_i32_669 c1_i32_670 k0_t1
  let v2189 : BitVec 32 := Scalar.muli c2_i32_1527 arg23
  let c1_i32_1528 : BitVec 32 := 1#32
  let v2190 : BitVec 32 := Scalar.addi v2189 c1_i32_1528
  let c1_i32_1972 : BitVec 32 := 1#32
  let v2834 : BitVec 32 := Scalar.subi v2190 c1_i32_1972
  let c13_i32_1977 : BitVec 32 := 13#32
  let v2840 : BitVec 32 := Scalar.addi v2834 c13_i32_1977
  let c0_i32_1980 : BitVec 32 := 0#32
  let c0_i32_1981 : BitVec 32 := 0#32
  ![v2840.toNat, 0, 0]
abbrev stage0_0 : Fin 1 → Memref sig .tc .vmem S36x96x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x960x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S36x96x1536 : Shape := ⟨3, ![36, 96, 1536]⟩
abbrev S36x80x128 : Shape := ⟨3, ![36, 80, 128]⟩
abbrev S36x1536x512 : Shape := ⟨3, ![36, 1536, 512]⟩
abbrev S36x512 : Shape := ⟨2, ![36, 512]⟩
abbrev S36x512x1536 : Shape := ⟨3, ![36, 512, 1536]⟩
abbrev S36x1536 : Shape := ⟨2, ![36, 1536]⟩
abbrev S36x960x128 : Shape := ⟨3, ![36, 960, 128]⟩
abbrev S36x80x1536 : Shape := ⟨3, ![36, 80, 1536]⟩
abbrev S36x80x1 : Shape := ⟨3, ![36, 80, 1]⟩
abbrev S36x80x512 : Shape := ⟨3, ![36, 80, 512]⟩
abbrev S36x1x512 : Shape := ⟨3, ![36, 1, 512]⟩
abbrev S36x80 : Shape := ⟨2, ![36, 80]⟩
abbrev S36x1x1536 : Shape := ⟨3, ![36, 1, 1536]⟩

abbrev nBuf : Space → Nat
  | .hbm => 10
  | .vmem => 10
  | .smem => 0
  | _ => 0

abbrev bufTy : (tb : Table) → Fin (tcTables nBuf tb) → BufTy
  | .hbm, ⟨0, _⟩ => ⟨S36x96x1536, .fp8e4m3⟩
  | .hbm, ⟨1, _⟩ => ⟨S36x80x128, .f32⟩
  | .hbm, ⟨2, _⟩ => ⟨S36x80x128, .f32⟩
  | .hbm, ⟨3, _⟩ => ⟨S36x1536x512, .fp8e4m3⟩
  | .hbm, ⟨4, _⟩ => ⟨S36x1536x512, .fp8e4m3⟩
  | .hbm, ⟨5, _⟩ => ⟨S36x512, .f32⟩
  | .hbm, ⟨6, _⟩ => ⟨S36x512, .f32⟩
  | .hbm, ⟨7, _⟩ => ⟨S36x512x1536, .fp8e4m3⟩
  | .hbm, ⟨8, _⟩ => ⟨S36x1536, .f32⟩
  | .hbm, ⟨9, _⟩ => ⟨S36x960x128, .f32⟩
  | .local _ .vmem, ⟨0, _⟩ => ⟨S36x96x1536, .fp8e4m3⟩
  | .local _ .vmem, ⟨1, _⟩ => ⟨S36x80x128, .f32⟩
  | .local _ .vmem, ⟨2, _⟩ => ⟨S36x80x128, .f32⟩
  | .local _ .vmem, ⟨3, _⟩ => ⟨S36x1536x512, .fp8e4m3⟩
  | .local _ .vmem, ⟨4, _⟩ => ⟨S36x1536x512, .fp8e4m3⟩
  | .local _ .vmem, ⟨5, _⟩ => ⟨S36x512, .f32⟩
  | .local _ .vmem, ⟨6, _⟩ => ⟨S36x512, .f32⟩
  | .local _ .vmem, ⟨7, _⟩ => ⟨S36x512x1536, .fp8e4m3⟩
  | .local _ .vmem, ⟨8, _⟩ => ⟨S36x1536, .f32⟩
  | .local _ .vmem, ⟨9, _⟩ => ⟨S36x960x128, .f32⟩
  | _, _ => ⟨S36x96x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S36x96x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x1536x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x1536x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S36x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S36x512x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S36x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S36x960x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Steps.lean ====
/-
  The kernel's body written as a program over steps: what one step does to the buffers and the weight
  copies, for any expert, ring slot and buffer half. The memrefs and the semaphores are parameters, so
  the same text serves the program as printed and its idealization.
-/
module

public import Idealize.ShloMosaic.Lib.Pipeline
public import Idealize.ShloMosaic.Lib.Scf
public import Idealize.ShloMosaic.Lib.Sig
public import Idealize.ShloMosaic.PureOps
public import Idealize.ShloMosaic.Lib.Tactic

@[expose] public section

set_option maxRecDepth 16384

noncomputable section

namespace Ffn

open Idealize.ShloMosaic Idealize.ShloMosaic.Tactic Idealize.SL.Sem

/-! ## Shapes -/

abbrev S_ : Shape := ⟨0, ![]⟩
abbrev S1 : Shape := ⟨1, ![1]⟩
abbrev S6 : Shape := ⟨1, ![6]⟩
abbrev S13 : Shape := ⟨1, ![13]⟩
abbrev S80 : Shape := ⟨1, ![80]⟩
abbrev S80x1 : Shape := ⟨2, ![80, 1]⟩
abbrev S80x128 : Shape := ⟨2, ![80, 128]⟩
abbrev S80x512 : Shape := ⟨2, ![80, 512]⟩
abbrev S16x512 : Shape := ⟨2, ![16, 512]⟩
abbrev S96x512 : Shape := ⟨2, ![96, 512]⟩
abbrev S96x1536 : Shape := ⟨2, ![96, 1536]⟩
abbrev S8x128 : Shape := ⟨2, ![8, 128]⟩
abbrev S1x8x128 : Shape := ⟨3, ![1, 8, 128]⟩
abbrev S1x512 : Shape := ⟨2, ![1, 512]⟩
abbrev S512x512 : Shape := ⟨2, ![512, 512]⟩
abbrev S1x512x512 : Shape := ⟨3, ![1, 512, 512]⟩
abbrev S960x128 : Shape := ⟨2, ![960, 128]⟩
abbrev S1x960x128 : Shape := ⟨3, ![1, 960, 128]⟩
abbrev S2x960x128 : Shape := ⟨3, ![2, 960, 128]⟩
abbrev S36x960x128 : Shape := ⟨3, ![36, 960, 128]⟩
abbrev S1x96x512 : Shape := ⟨3, ![1, 96, 512]⟩
abbrev S2x96x512 : Shape := ⟨3, ![2, 96, 512]⟩
abbrev S1x80x128 : Shape := ⟨3, ![1, 80, 128]⟩
abbrev S2x80x128 : Shape := ⟨3, ![2, 80, 128]⟩
abbrev S36x80x128 : Shape := ⟨3, ![36, 80, 128]⟩
abbrev S36x512 : Shape := ⟨2, ![36, 512]⟩
abbrev S36x1536 : Shape := ⟨2, ![36, 1536]⟩
abbrev S1x96x1536 : Shape := ⟨3, ![1, 96, 1536]⟩
abbrev S36x96x1536 : Shape := ⟨3, ![36, 96, 1536]⟩
abbrev S1536x512 : Shape := ⟨2, ![1536, 512]⟩
abbrev S1x1536x512 : Shape := ⟨3, ![1, 1536, 512]⟩
abbrev S13x1536x512 : Shape := ⟨3, ![13, 1536, 512]⟩
abbrev S36x1536x512 : Shape := ⟨3, ![36, 1536, 512]⟩
abbrev S512x1536 : Shape := ⟨2, ![512, 1536]⟩
abbrev S1x512x1536 : Shape := ⟨3, ![1, 512, 1536]⟩
abbrev S13x512x1536 : Shape := ⟨3, ![13, 512, 1536]⟩
abbrev S36x512x1536 : Shape := ⟨3, ![36, 512, 1536]⟩

/-! ## Facts on blocks: in bounds, whole words, packed rows -/

theorem sqSem : S1.Squeezes S_ := by decide
theorem sqG : S1x1536x512.Squeezes S1536x512 := by decide
theorem sqD : S1x512x1536.Squeezes S512x1536 := by decide

theorem inbSem6 : ∀ (j : Fin 6) a, (![j.val] : Fin 1 → Nat) a + S1.size a ≤ S6.size a := by decide
theorem inbSem : ∀ (k : Fin 13) a, (![k.val] : Fin 1 → Nat) a + S1.size a ≤ S13.size a := by decide
theorem inbG36 : ∀ (e : Fin 36) a, (![e.val, 0, 0] : Fin 3 → Nat) a + S1x1536x512.size a ≤ S36x1536x512.size a := by decide
theorem inbG13 : ∀ (k : Fin 13) a, (![k.val, 0, 0] : Fin 3 → Nat) a + S1x1536x512.size a ≤ S13x1536x512.size a := by decide
theorem inbD36 : ∀ (e : Fin 36) a, (![e.val, 0, 0] : Fin 3 → Nat) a + S1x512x1536.size a ≤ S36x512x1536.size a := by decide
theorem inbD13 : ∀ (k : Fin 13) a, (![k.val, 0, 0] : Fin 3 → Nat) a + S1x512x1536.size a ≤ S13x512x1536.size a := by decide
theorem inbX : ∀ (e : Fin 36) a, (![e.val, 0, 0] : Fin 3 → Nat) a + S1x96x1536.size a ≤ S36x96x1536.size a := by decide
theorem inbR : ∀ (e : Fin 36) a, (![e.val, 0, 0] : Fin 3 → Nat) a + S1x80x128.size a ≤ S36x80x128.size a := by decide
theorem inbS : ∀ (e : Fin 36) a, (![e.val, 0] : Fin 2 → Nat) a + S1x512.size a ≤ S36x512.size a := by decide
theorem inbSd : ∀ (e : Fin 36) (n : Fin 3) a, (![e.val, 512 * n.val] : Fin 2 → Nat) a + S1x512.size a ≤ S36x1536.size a := by
  decide
theorem inbWd : ∀ (k : Fin 13) (n : Fin 3) a,
    (![k.val, 0, 512 * n.val] : Fin 3 → Nat) a + S1x512x512.size a ≤ S13x512x1536.size a := by decide
theorem inbHqAll : ∀ a, (![0, 0, 0] : Fin 3 → Nat) a + S2x96x512.size a ≤ S2x96x512.size a := by decide
theorem inbHq : ∀ (h : Fin 2) a, (![h.val, 0, 0] : Fin 3 → Nat) a + S1x96x512.size a ≤ S2x96x512.size a := by decide
theorem inbHs : ∀ (h : Fin 2) a, (![h.val, 0, 0] : Fin 3 → Nat) a + S1x80x128.size a ≤ S2x80x128.size a := by decide
theorem inbY : ∀ (h : Fin 2) a, (![h.val, 0, 0] : Fin 3 → Nat) a + S1x960x128.size a ≤ S2x960x128.size a := by decide
theorem inbO : ∀ (e : Fin 36) a, (![e.val, 0, 0] : Fin 3 → Nat) a + S1x960x128.size a ≤ S36x960x128.size a := by decide
theorem inbYs (h : Fin 2) (n : Fin 3) (i : Fin 10) (j : Fin 4) : ∀ a, S1x8x128.size a = 0 ∨
    (![h.val, 96 * i.val + 4 * n.val + j.val, 0] : Fin 3 → Nat) a
      + (![1, 12, 1] : Fin 3 → Nat) a * (S1x8x128.size a - 1) < S2x960x128.size a := by
  intro a
  right
  have := h.isLt; have := n.isLt; have := i.isLt; have := j.isLt
  fin_cases a
  · show h.val + 1 * (1 - 1) < 2; omega
  · show 96 * i.val + 4 * n.val + j.val + 12 * (8 - 1) < 960; omega
  · show 0 + 1 * (128 - 1) < 128; omega
theorem concH : Shape.Concatenates [S80x512, S16x512] S96x512 0 := by decide
theorem sposY : ∀ a, 0 < (![1, 12, 1] : Fin 3 → Nat) a := by decide
theorem slY : ∀ (i : Fin 10) (j : Fin 4), S80x512.Slices ![8 * i.val, 128 * j.val] S8x128 := by decide

theorem wordsG36 : ∀ e : Fin 36, (Rect.unit (s := S36x1536x512) ![e.val, 0, 0] S1x1536x512.size (inbG36 e)).WholeWords (EltTy.packing .fp8e4m3) := by
  decide +kernel
theorem wordsG13 : ∀ k : Fin 13, (Rect.unit (s := S13x1536x512) ![k.val, 0, 0] S1x1536x512.size (inbG13 k)).WholeWords (EltTy.packing .fp8e4m3) := by
  decide +kernel
theorem wordsD36 : ∀ e : Fin 36, (Rect.unit (s := S36x512x1536) ![e.val, 0, 0] S1x512x1536.size (inbD36 e)).WholeWords (EltTy.packing .fp8e4m3) := by
  decide +kernel
theorem wordsD13 : ∀ k : Fin 13, (Rect.unit (s := S13x512x1536) ![k.val, 0, 0] S1x512x1536.size (inbD13 k)).WholeWords (EltTy.packing .fp8e4m3) := by
  decide +kernel
theorem packedHqAll : (Rect.unit (s := S2x96x512) ![0, 0, 0] S2x96x512.size inbHqAll).PackedRows (EltTy.packing .fp8e4m3) := by decide
theorem packedHq : ∀ h : Fin 2, (Rect.unit (s := S2x96x512) ![h.val, 0, 0] S1x96x512.size (inbHq h)).PackedRows (EltTy.packing .fp8e4m3) := by
  decide

theorem posS1x1536x512 : 0 < S1x1536x512.numel := by decide
theorem posS1x512 : 0 < S1x512.numel := by decide
theorem posS1x512x512 : 0 < S1x512x512.numel := by decide
theorem posS1x80x128 : 0 < S1x80x128.numel := by decide
theorem posS1x8x128 : 0 < S1x8x128.numel := by decide
theorem posS1x960x128 : 0 < S1x960x128.numel := by decide
theorem posS1x96x1536 : 0 < S1x96x1536.numel := by decide
theorem posS1x96x512 : 0 < S1x96x512.numel := by decide
theorem posS2x96x512 : 0 < S2x96x512.numel := by decide

/-! ## The two products -/

def dotG : DotDims S96x1536 S1536x512 S96x512 where
  lhsContracting := [1]
  rhsContracting := [0]
  lhsNonContracting := [0]
  rhsNonContracting := [1]
  lhsBatch := []
  rhsBatch := []
  wf := by decide

def dotD : DotDims S96x512 S512x512 S96x512 where
  lhsContracting := [1]
  rhsContracting := [0]
  lhsNonContracting := [0]
  rhsNonContracting := [1]
  lhsBatch := []
  rhsBatch := []
  wf := by decide

variable {F : FTy → Type} [FloatOps F]

/-! ## What a step computes -/

/-- One product of the tokens with a weight block, its first eighty rows. -/
def proj (x : Vec F S1x96x1536 .fp8e4m3) (w : Vec F S1x1536x512 .fp8e4m3) : FVec F S80x512 .f32 :=
  extractStridedSlice S80x512 ![0, 0]
    (matmul dotG none (shapeCast S96x1536 x (by decide) : FVec F S96x1536 .fp8e4m3) (shapeCast S1536x512 w (by decide) : FVec F S1536x512 .fp8e4m3)
      (constant S96x512 .f32 0x00000000#32)) (by decide)

/-- Lane 0 of a block of row scalars, spread along the 512 columns. -/
def lane0 (x : Vec F S1x80x128 .f32) : FVec F S80x1 .f32 :=
  extractStridedSlice S80x1 ![0, 0] (shapeCast S80x128 x (by decide) : FVec F S80x128 .f32) (by decide)

def spread (x : FVec F S80x1 .f32) : FVec F S80x512 .f32 := broadcastTo S80x512 x (by decide)

/-- A product rescaled by the tokens' scales and the weight's column scales. -/
def scaled (g : FVec F S80x512 .f32) (xs : Vec F S1x80x128 .f32) (s : Vec F S1x512 .f32) : FVec F S80x512 .f32 :=
  mulf (mulf g (spread (lane0 xs))) (broadcastTo S80x512 s (by decide))

/-- The gated activation. -/
def hidden (x : Vec F S1x96x1536 .fp8e4m3) (wg wu : Vec F S1x1536x512 .fp8e4m3) (xs : Vec F S1x80x128 .f32)
    (sg su : Vec F S1x512 .f32) : FVec F S80x512 .f32 :=
  let ga := scaled (proj x wg) xs sg
  let u := scaled (proj x wu) xs su
  mulf (mulf ga (divf (broadcast S80x512 (Scalar.ofBits .f32 0x3F800000#32))
    (addf (broadcast S80x512 (Scalar.ofBits .f32 0x3F800000#32))
      (exp (subf (broadcast S80x512 (Scalar.ofBits .f32 0x00000000#32)) ga))))) u

/-- The exponent of each row's power-of-two scale. -/
def expo (hv : FVec F S80x512 .f32) : FVec F S80x1 .f32 :=
  let q : FVec F S80x1 .f32 := mulf (shapeCast S80x1 (multiReduction .maximumf [1] S80 (absf hv) 0xFF800000#32 (by decide) (.inl rfl) rfl) (by decide))
    (broadcast S80x1 (Scalar.ofBits .f32 0x3B124925#32))
  select (ori (cmpf .oeq q (broadcast S80x1 (Scalar.ofBits .f32 0x00000000#32)))
      (cmpf .oeq q (broadcast S80x1 (Scalar.ofBits .f32 0x7F800000#32))))
    (broadcast S80x1 (Scalar.ofBits .f32 0x00000000#32))
    (addf (floor (divf (log q) (log (broadcast S80x1 (Scalar.ofBits .f32 0x40000000#32)))))
      (broadcast S80x1 (Scalar.ofBits .f32 0x3F800000#32)))

/-- The rows' scales, one per lane. -/
def hScale (hv : FVec F S80x512 .f32) : FVec F S1x80x128 .f32 :=
  shapeCast S1x80x128 (broadcastTo S80x128 (shapeCast S80x1 (exp2 (expo hv)) (by decide) : FVec F S80x1 .f32) (by decide) : FVec F S80x128 .f32) (by decide)

/-- The rows' codes, padded with zero rows. -/
def hCodes (hv : FVec F S80x512 .f32) : FVec F S1x96x512 .fp8e4m3 :=
  shapeCast S1x96x512 (truncf .fp8e4m3
    (concatenate S96x512 0 [⟨S80x512, minimumf (broadcast S80x512 (Scalar.ofBits .f32 0x43E00000#32))
        (maximumf (broadcast S80x512 (Scalar.ofBits .f32 0xC3E00000#32))
          (mulf hv (spread (exp2 (subf (broadcast S80x1 (Scalar.ofBits .f32 0x00000000#32)) (expo hv))))))⟩,
      ⟨S16x512, (broadcast S16x512 (Scalar.ofBits .f32 0x00000000#32) : FVec F S16x512 .f32)⟩] concH) (by decide) : FVec F S96x512 .fp8e4m3) (by decide)

/-- Five hundred and twelve columns of the second product, rescaled and weighted. -/
def downMul (a : FVec F S80x1 .f32) (hq : Vec F S1x96x512 .fp8e4m3) (w : Vec F S1x512x512 .fp8e4m3) : FVec F S80x512 .f32 :=
  mulf (extractStridedSlice S80x512 ![0, 0]
      (matmul dotD none (shapeCast S96x512 hq (by decide) : FVec F S96x512 .fp8e4m3) (shapeCast S512x512 w (by decide) : FVec F S512x512 .fp8e4m3)
        (constant S96x512 .f32 0x00000000#32)) (by decide)) (spread a)
def downFin (b : FVec F S80x1 .f32) (p : FVec F S80x512 .f32) (s : Vec F S1x512 .f32) : FVec F S80x512 .f32 :=
  mulf (mulf p (broadcastTo S80x512 s (by decide))) (spread b)
def downVal (a b : FVec F S80x1 .f32) (hq : Vec F S1x96x512 .fp8e4m3) (w : Vec F S1x512x512 .fp8e4m3) (s : Vec F S1x512 .f32) :
    FVec F S80x512 .f32 :=
  downFin b (downMul a hq w) s

/-- One tile of it, as it is stored. -/
def tileVal (y : FVec F S80x512 .f32) (i : Fin 10) (j : Fin 4) : FVec F S1x8x128 .f32 :=
  shapeCast S1x8x128 (extractStridedSlice S8x128 ![8 * i.val, 128 * j.val] y (slY i j) : FVec F S8x128 .f32) (by decide)

/-- The block handed out. -/
def outVal (y : Vec F S1x960x128 .f32) : FVec F S1x960x128 .f32 :=
  shapeCast S1x960x128 (shapeCast S960x128 y (by decide) : FVec F S960x128 .f32) (by decide)

/-! ## The buffers -/

/-- The arrays, the buffers and the semaphores the body works on. -/
structure Operands (sig : RefSig) where
  xg : Memref sig .tc .vmem S36x96x1536 .fp8e4m3
  xs : Memref sig .tc .vmem S36x80x128 .f32
  r : Memref sig .tc .vmem S36x80x128 .f32
  wg : Memref sig .tc .hbm S36x1536x512 .fp8e4m3
  hwg : wg.IsWhole
  wu : Memref sig .tc .hbm S36x1536x512 .fp8e4m3
  hwu : wu.IsWhole
  sg : Memref sig .tc .hbm S36x512 .f32
  hsg : sg.IsWhole
  su : Memref sig .tc .hbm S36x512 .f32
  hsu : su.IsWhole
  wd : Memref sig .tc .hbm S36x512x1536 .fp8e4m3
  hwd : wd.IsWhole
  sd : Memref sig .tc .hbm S36x1536 .f32
  hsd : sd.IsWhole
  y : Memref sig .tc .vmem S36x960x128 .f32
  bg : Memref sig .tc .vmem S13x1536x512 .fp8e4m3
  hbg : bg.IsWhole
  bu : Memref sig .tc .vmem S13x1536x512 .fp8e4m3
  hbu : bu.IsWhole
  bd : Memref sig .tc .vmem S13x512x1536 .fp8e4m3
  hbd : bd.IsWhole
  bsg : Memref sig .tc .vmem S36x512 .f32
  hbsg : bsg.IsWhole
  bsu : Memref sig .tc .vmem S36x512 .f32
  hbsu : bsu.IsWhole
  bsd : Memref sig .tc .vmem S36x1536 .f32
  hbsd : bsd.IsWhole
  hq : Memref sig .tc .vmem S2x96x512 .fp8e4m3
  hhq : hq.IsWhole
  hs : Memref sig .tc .vmem S2x80x128 .f32
  yv : Memref sig .tc .vmem S2x960x128 .f32
  semS : DmaSems sig S6
  semG : DmaSems sig S13
  semU : DmaSems sig S13
  semD : DmaSems sig S13

variable {nD : Nat} {τ : Topo} {sig : RefSig} {Λ₀ : Labels}

section Parts

variable (O : Operands sig)

/-- One cell of a row of thirteen semaphores, and of a row of six. -/
def cell (s : DmaSems sig S13) (k : Fin 13) : DmaSem sig :=
  ((s.slice (Rect.unit (s := S13) ![k.val] S1.size (inbSem k))).squeeze S_ sqSem).sem
def cell6 (s : DmaSems sig S6) (k : Fin 6) : DmaSem sig :=
  ((s.slice (Rect.unit (s := S6) ![k.val] S1.size (inbSem6 k))).squeeze S_ sqSem).sem

/-- An expert's block of a weight array, and a slot of a weight ring. -/
abbrev srcG (m : Memref sig .tc .hbm S36x1536x512 .fp8e4m3) (e : Fin 36) : Memref sig .tc .hbm S1536x512 .fp8e4m3 :=
  (m.slice (Rect.unit (s := S36x1536x512) ![e.val, 0, 0] S1x1536x512.size (inbG36 e)) (fun _ => rfl)).squeeze S1536x512 sqG
abbrev dstG (m : Memref sig .tc .vmem S13x1536x512 .fp8e4m3) (k : Fin 13) : Memref sig .tc .vmem S1536x512 .fp8e4m3 :=
  (m.slice (Rect.unit (s := S13x1536x512) ![k.val, 0, 0] S1x1536x512.size (inbG13 k)) (fun _ => rfl)).squeeze S1536x512 sqG
abbrev srcD (m : Memref sig .tc .hbm S36x512x1536 .fp8e4m3) (e : Fin 36) : Memref sig .tc .hbm S512x1536 .fp8e4m3 :=
  (m.slice (Rect.unit (s := S36x512x1536) ![e.val, 0, 0] S1x512x1536.size (inbD36 e)) (fun _ => rfl)).squeeze S512x1536 sqD
abbrev dstD (m : Memref sig .tc .vmem S13x512x1536 .fp8e4m3) (k : Fin 13) : Memref sig .tc .vmem S512x1536 .fp8e4m3 :=
  (m.slice (Rect.unit (s := S13x512x1536) ![k.val, 0, 0] S1x512x1536.size (inbD13 k)) (fun _ => rfl)).squeeze S512x1536 sqD

theorem exSrcG {m : Memref sig .tc .hbm S36x1536x512 .fp8e4m3} (h : m.IsWhole) (e : Fin 36) : (srcG m e).view.WordExact :=
  (h.wordExact_slice rfl _ (wordsG36 e)).reshape _ _
theorem exDstG {m : Memref sig .tc .vmem S13x1536x512 .fp8e4m3} (h : m.IsWhole) (k : Fin 13) : (dstG m k).view.WordExact :=
  (h.wordExact_slice rfl _ (wordsG13 k)).reshape _ _
theorem exSrcD {m : Memref sig .tc .hbm S36x512x1536 .fp8e4m3} (h : m.IsWhole) (e : Fin 36) : (srcD m e).view.WordExact :=
  (h.wordExact_slice rfl _ (wordsD36 e)).reshape _ _
theorem exDstD {m : Memref sig .tc .vmem S13x512x1536 .fp8e4m3} (h : m.IsWhole) (k : Fin 13) : (dstD m k).view.WordExact :=
  (h.wordExact_slice rfl _ (wordsD13 k)).reshape _ _

/-- Start, and await, the copy of expert `e`'s block into slot `k`. -/
def startG (w : Memref sig .tc .hbm S36x1536x512 .fp8e4m3) (hw : w.IsWhole) (b : Memref sig .tc .vmem S13x1536x512 .fp8e4m3) (hb : b.IsWhole)
    (s : DmaSems sig S13) (e : Fin 36) (k : Fin 13) : Prog (TpuEff nD τ sig (Elt F) Λ₀ .tc) PUnit :=
  Prog.lift (.enqueueDma (srcG w e) (.here (dstG b k)) (.dma (cell s k)) (exSrcG hw e) (exDstG hb k) ⟨Or.inl rfl, trivial⟩)
def waitG (w : Memref sig .tc .hbm S36x1536x512 .fp8e4m3) (hw : w.IsWhole) (b : Memref sig .tc .vmem S13x1536x512 .fp8e4m3) (hb : b.IsWhole)
    (s : DmaSems sig S13) (e : Fin 36) (k : Fin 13) : Prog (TpuEff nD τ sig (Elt F) Λ₀ .tc) PUnit :=
  Prog.lift (.waitDma2 (cell s k) (srcG w e) (dstG b k) (exSrcG hw e) (exDstG hb k))
def startD (w : Memref sig .tc .hbm S36x512x1536 .fp8e4m3) (hw : w.IsWhole) (b : Memref sig .tc .vmem S13x512x1536 .fp8e4m3) (hb : b.IsWhole)
    (s : DmaSems sig S13) (e : Fin 36) (k : Fin 13) : Prog (TpuEff nD τ sig (Elt F) Λ₀ .tc) PUnit :=
  Prog.lift (.enqueueDma (srcD w e) (.here (dstD b k)) (.dma (cell s k)) (exSrcD hw e) (exDstD hb k) ⟨Or.inl rfl, trivial⟩)
def waitD (w : Memref sig .tc .hbm S36x512x1536 .fp8e4m3) (hw : w.IsWhole) (b : Memref sig .tc .vmem S13x512x1536 .fp8e4m3) (hb : b.IsWhole)
    (s : DmaSems sig S13) (e : Fin 36) (k : Fin 13) : Prog (TpuEff nD τ sig (Elt F) Λ₀ .tc) PUnit :=
  Prog.lift (.waitDma2 (cell s k) (srcD w e) (dstD b k) (exSrcD hw e) (exDstD hb k))

/-- Start, and await, the copies of the three arrays of column scales. -/
def startSmall : Prog (TpuEff nD τ sig (Elt F) Λ₀ .tc) PUnit := do
  Prog.lift (.enqueueDma O.sg (.here O.bsg) (.dma (cell6 O.semS ⟨3, by decide⟩)) O.hsg.wordExact O.hbsg.wordExact ⟨Or.inl rfl, trivial⟩)
  Prog.lift (.enqueueDma O.su (.here O.bsu) (.dma (cell6 O.semS ⟨4, by decide⟩)) O.hsu.wordExact O.hbsu.wordExact ⟨Or.inl rfl, trivial⟩)
  Prog.lift (.enqueueDma O.sd (.here O.bsd) (.dma (cell6 O.semS ⟨5, by decide⟩)) O.hsd.wordExact O.hbsd.wordExact ⟨Or.inl rfl, trivial⟩)
def waitSmall : Prog (TpuEff nD τ sig (Elt F) Λ₀ .tc) PUnit := do
  Prog.lift (.waitDma2 (cell6 O.semS ⟨3, by decide⟩) O.sg O.bsg O.hsg.wordExact O.hbsg.wordExact)
  Prog.lift (.waitDma2 (cell6 O.semS ⟨4, by decide⟩) O.su O.bsu O.hsu.wordExact O.hbsu.wordExact)
  Prog.lift (.waitDma2 (cell6 O.semS ⟨5, by decide⟩) O.sd O.bsd O.hsd.wordExact O.hbsd.wordExact)

/-- Steps `f 0, …, f (n - 1)` in order. -/
def seqN : (n : Nat) → (Fin n → Prog (TpuEff nD τ sig (Elt F) Λ₀ .tc) PUnit) → Prog (TpuEff nD τ sig (Elt F) Λ₀ .tc) PUnit
  | 0, _ => pure ⟨⟩
  | n + 1, f => do
    f ⟨0, Nat.succ_pos n⟩
    seqN n fun i => f i.succ

/-- Start the three copies that fill slot `k` first. -/
def startSlot (k : Fin 13) : Prog (TpuEff nD τ sig (Elt F) Λ₀ .tc) PUnit := do
  startG O.wg O.hwg O.bg O.hbg O.semG ⟨k.val, Nat.lt_trans k.isLt (by decide)⟩ k
  startG O.wu O.hwu O.bu O.hbu O.semU ⟨k.val, Nat.lt_trans k.isLt (by decide)⟩ k
  startD O.wd O.hwd O.bd O.hbd O.semD ⟨k.val, Nat.lt_trans k.isLt (by decide)⟩ k

/-- Clear the codes' buffer. -/
def clearHq : Prog (TpuEff nD τ sig (Elt F) Λ₀ .tc) PUnit := do
  let _v : Vec F S2x96x512 .fp8e4m3 ← Prog.lift (.load O.hq (Rect.unit (s := S2x96x512) ![0, 0, 0] S2x96x512.size inbHqAll).toLoadRect (View.loadsAt_vmem posS2x96x512))
  Prog.lift (.store O.hq (Rect.unit (s := S2x96x512) ![0, 0, 0] S2x96x512.size inbHqAll)
    (shapeCast S2x96x512 (broadcast S2x96x512 (Scalar.ofBits .fp8e4m3 0x00#8) : FVec F S2x96x512 .fp8e4m3) (by decide) : FVec F S2x96x512 .fp8e4m3) Finset.univ
    (View.stores_vmem posS2x96x512 (O.hhq.storeExact_slice rfl _ packedHqAll) (fun _ => rfl)) (.inl rfl))

/-- The gated activation of expert `e`, its weights in slot `k`, quantised into half `h`. -/
def gateUp (e : Fin 36) (k : Fin 13) (h : Fin 2) : Prog (TpuEff nD τ sig (Elt F) Λ₀ .tc) PUnit := do
  waitG O.wg O.hwg O.bg O.hbg O.semG e k
  waitG O.wu O.hwu O.bu O.hbu O.semU e k
  let x : Vec F S1x96x1536 .fp8e4m3 ← Prog.lift (.load O.xg (Rect.unit (s := S36x96x1536) ![e.val, 0, 0] S1x96x1536.size (inbX e)).toLoadRect (View.loadsAt_vmem posS1x96x1536))
  let wg : Vec F S1x1536x512 .fp8e4m3 ← Prog.lift (.load O.bg (Rect.unit (s := S13x1536x512) ![k.val, 0, 0] S1x1536x512.size (inbG13 k)).toLoadRect (View.loadsAt_vmem posS1x1536x512))
  let wu : Vec F S1x1536x512 .fp8e4m3 ← Prog.lift (.load O.bu (Rect.unit (s := S13x1536x512) ![k.val, 0, 0] S1x1536x512.size (inbG13 k)).toLoadRect (View.loadsAt_vmem posS1x1536x512))
  let xs : Vec F S1x80x128 .f32 ← Prog.lift (.load O.xs (Rect.unit (s := S36x80x128) ![e.val, 0, 0] S1x80x128.size (inbR e)).toLoadRect (View.loadsAt_vmem posS1x80x128))
  let sg : Vec F S1x512 .f32 ← Prog.lift (.load O.bsg (Rect.unit (s := S36x512) ![e.val, 0] S1x512.size (inbS e)).toLoadRect (View.loadsAt_vmem posS1x512))
  let su : Vec F S1x512 .f32 ← Prog.lift (.load O.bsu (Rect.unit (s := S36x512) ![e.val, 0] S1x512.size (inbS e)).toLoadRect (View.loadsAt_vmem posS1x512))
  let _a : Vec F S1x96x512 .fp8e4m3 ← Prog.lift (.load O.hq (Rect.unit (s := S2x96x512) ![h.val, 0, 0] S1x96x512.size (inbHq h)).toLoadRect (View.loadsAt_vmem posS1x96x512))
  Prog.lift (.store O.hq (Rect.unit (s := S2x96x512) ![h.val, 0, 0] S1x96x512.size (inbHq h)) (hCodes (hidden x wg wu xs sg su)) Finset.univ
    (View.stores_vmem posS1x96x512 (O.hhq.storeExact_slice rfl _ (packedHq h)) (fun _ => rfl)) (.inl rfl))
  let _b : Vec F S1x80x128 .f32 ← Prog.lift (.load O.hs (Rect.unit (s := S2x80x128) ![h.val, 0, 0] S1x80x128.size (inbHs h)).toLoadRect (View.loadsAt_vmem posS1x80x128))
  Prog.lift (.store O.hs (Rect.unit (s := S2x80x128) ![h.val, 0, 0] S1x80x128.size (inbHs h)) (hScale (hidden x wg wu xs sg su)) Finset.univ
    (View.stores_vmem_bits_univ posS1x80x128 rfl) (.inl rfl))

/-- The rows a tile is stored at. -/
abbrev tileRect (h : Fin 2) (n : Fin 3) (i : Fin 10) (j : Fin 4) : Rect S2x960x128 :=
  ⟨(⟨![h.val, 96 * i.val + 4 * n.val + j.val, 0], S1x8x128.size, ![1, 12, 1], inbYs h n i j⟩ : LoadRect S2x960x128), sposY⟩

/-- Store tile `(i, j)` of the `n`-th five hundred and twelve columns into half `h`. -/
def storeTile (h : Fin 2) (n : Fin 3) (y : FVec F S80x512 .f32) (i : Fin 10) (j : Fin 4) : Prog (TpuEff nD τ sig (Elt F) Λ₀ .tc) PUnit := do
  let _a : Vec F S1x8x128 .f32 ← Prog.lift (.load O.yv (⟨![h.val, 96 * i.val + 4 * n.val + j.val, 0], S1x8x128.size, ![1, 12, 1], inbYs h n i j⟩ : LoadRect S2x960x128) (View.loadsAt_vmem posS1x8x128))
  Prog.lift (.store O.yv (tileRect h n i j) (tileVal y i j) Finset.univ (View.stores_vmem_bits_univ posS1x8x128 rfl) (.inl rfl))

/-- Five hundred and twelve columns of expert `e`'s result. -/
def downCols (e : Fin 36) (k : Fin 13) (h : Fin 2) (a b : FVec F S80x1 .f32) (n : Fin 3) : Prog (TpuEff nD τ sig (Elt F) Λ₀ .tc) PUnit := do
  let hq : Vec F S1x96x512 .fp8e4m3 ← Prog.lift (.load O.hq (Rect.unit (s := S2x96x512) ![h.val, 0, 0] S1x96x512.size (inbHq h)).toLoadRect (View.loadsAt_vmem posS1x96x512))
  let w : Vec F S1x512x512 .fp8e4m3 ← Prog.lift (.load O.bd (Rect.unit (s := S13x512x1536) ![k.val, 0, 512 * n.val] S1x512x512.size (inbWd k n)).toLoadRect (View.loadsAt_vmem posS1x512x512))
  let s : Vec F S1x512 .f32 ← Prog.lift (.load O.bsd (Rect.unit (s := S36x1536) ![e.val, 512 * n.val] S1x512.size (inbSd e n)).toLoadRect (View.loadsAt_vmem posS1x512))
  seqN 10 fun i => seqN 4 fun j => storeTile O h n (downVal a b hq w s) i j

/-- The second product of expert `e`, its weights in slot `k`, its codes and its result in half `h`. -/
def down (e : Fin 36) (k : Fin 13) (h : Fin 2) : Prog (TpuEff nD τ sig (Elt F) Λ₀ .tc) PUnit := do
  waitD O.wd O.hwd O.bd O.hbd O.semD e k
  let hs : Vec F S1x80x128 .f32 ← Prog.lift (.load O.hs (Rect.unit (s := S2x80x128) ![h.val, 0, 0] S1x80x128.size (inbHs h)).toLoadRect (View.loadsAt_vmem posS1x80x128))
  let r : Vec F S1x80x128 .f32 ← Prog.lift (.load O.r (Rect.unit (s := S36x80x128) ![e.val, 0, 0] S1x80x128.size (inbR e)).toLoadRect (View.loadsAt_vmem posS1x80x128))
  seqN 3 fun n => downCols O e k h (lane0 hs) (lane0 r) n

/-- Hand out expert `e`'s result. -/
def combine (e : Fin 36) (h : Fin 2) : Prog (TpuEff nD τ sig (Elt F) Λ₀ .tc) PUnit := do
  let y : Vec F S1x960x128 .f32 ← Prog.lift (.load O.yv (Rect.unit (s := S2x960x128) ![h.val, 0, 0] S1x960x128.size (inbY h)).toLoadRect (View.loadsAt_vmem posS1x960x128))
  let _a : Vec F S1x960x128 .f32 ← Prog.lift (.load O.y (Rect.unit (s := S36x960x128) ![e.val, 0, 0] S1x960x128.size (inbO e)).toLoadRect (View.loadsAt_vmem posS1x960x128))
  Prog.lift (.store O.y (Rect.unit (s := S36x960x128) ![e.val, 0, 0] S1x960x128.size (inbO e)) (outVal y) Finset.univ
    (View.stores_vmem_bits_univ posS1x960x128 rfl) (.inl rfl))

/-- Start the copies of expert `e` into slot `k`. -/
def startGU (e : Fin 36) (k : Fin 13) : Prog (TpuEff nD τ sig (Elt F) Λ₀ .tc) PUnit := do
  startG O.wg O.hwg O.bg O.hbg O.semG e k
  startG O.wu O.hwu O.bu O.hbu O.semU e k
  pure ⟨⟩
def startDn (e : Fin 36) (k : Fin 13) : Prog (TpuEff nD τ sig (Elt F) Λ₀ .tc) PUnit := do
  startD O.wd O.hwd O.bd O.hbd O.semD e k
  pure ⟨⟩

end Parts

/-! ## The loop -/

/-- The loop over pairs of experts. -/
@[reducible] def loop : Scf.Loop 32 := ⟨1#32, Scalar.addi 1#32 17#32, 1#32⟩

/-- The words of an iteration: the expert `2 i + h`, the ones before it, their slots, the next one for
    the slot, and whether there is a next one. -/
def wE (t : Fin loop.trips) (h : BitVec 32) : BitVec 32 := Scalar.addi (Scalar.muli 2#32 (Scf.iv 1#32 1#32 t)) h
def wP (t : Fin loop.trips) (h : BitVec 32) : BitVec 32 := Scalar.subi (wE t h) 1#32
def wPP (t : Fin loop.trips) (h : BitVec 32) : BitVec 32 := Scalar.subi (wE t h) 2#32
def slotOf (w : BitVec 32) : BitVec 32 := Scalar.remsi w 13#32
def nextOf (w : BitVec 32) : BitVec 32 := Scalar.addi w 13#32
def more (w : BitVec 32) : BitVec 1 := Scalar.cmpi .ne (Scalar.extui (Scalar.cmpi .slt (nextOf w) 36#32) : BitVec 32) 0#32

/-- The half's number as a word. -/
def hw : Fin 2 → BitVec 32
  | 0 => 0#32
  | 1 => 1#32

theorem wE_toNat : ∀ (t : Fin loop.trips) (h : Fin 2), (wE t (hw h)).toNat = 2 * (t.val + 1) + h.val := by decide +kernel
theorem wP_toNat : ∀ (t : Fin loop.trips) (h : Fin 2), (wP t (hw h)).toNat = 2 * (t.val + 1) + h.val - 1 := by decide +kernel
theorem wPP_toNat : ∀ (t : Fin loop.trips) (h : Fin 2), (wPP t (hw h)).toNat = 2 * (t.val + 1) + h.val - 2 := by decide +kernel
theorem wE_slot : ∀ (t : Fin loop.trips) (h : Fin 2), (slotOf (wE t (hw h))).toNat = (2 * (t.val + 1) + h.val) % 13 := by decide +kernel
theorem wP_slot : ∀ (t : Fin loop.trips) (h : Fin 2), (slotOf (wP t (hw h))).toNat = (2 * (t.val + 1) + h.val - 1) % 13 := by decide +kernel
theorem wE_more : ∀ (t : Fin loop.trips) (h : Fin 2), more (wE t (hw h)) = 1#1 ↔ 2 * (t.val + 1) + h.val + 13 < 36 := by decide +kernel
theorem wP_more : ∀ (t : Fin loop.trips) (h : Fin 2), more (wP t (hw h)) = 1#1 ↔ 2 * (t.val + 1) + h.val - 1 + 13 < 36 := by decide +kernel
theorem wE_next : ∀ (t : Fin loop.trips) (h : Fin 2), (nextOf (wE t (hw h))).toNat = 2 * (t.val + 1) + h.val + 13 := by decide +kernel
theorem wP_next : ∀ (t : Fin loop.trips) (h : Fin 2), (nextOf (wP t (hw h))).toNat = 2 * (t.val + 1) + h.val - 1 + 13 := by decide +kernel
theorem loop_ok : loop.OK := by decide +kernel
theorem loop_trips : loop.trips = 17 := by decide +kernel

theorem t_lt (t : Fin loop.trips) : t.val < 17 := Nat.lt_of_lt_of_eq t.isLt loop_trips

def eE (t : Fin loop.trips) (h : Fin 2) : Fin 36 := ⟨(wE t (hw h)).toNat, by rw [wE_toNat]; have := t_lt t; have := h.isLt; omega⟩
def eP (t : Fin loop.trips) (h : Fin 2) : Fin 36 := ⟨(wP t (hw h)).toNat, by rw [wP_toNat]; have := t_lt t; have := h.isLt; omega⟩
def ePP (t : Fin loop.trips) (h : Fin 2) : Fin 36 := ⟨(wPP t (hw h)).toNat, by rw [wPP_toNat]; have := t_lt t; have := h.isLt; omega⟩
def sE (t : Fin loop.trips) (h : Fin 2) : Fin 13 := ⟨(slotOf (wE t (hw h))).toNat, by rw [wE_slot]; omega⟩
def sP (t : Fin loop.trips) (h : Fin 2) : Fin 13 := ⟨(slotOf (wP t (hw h))).toNat, by rw [wP_slot]; omega⟩
def nE (t : Fin loop.trips) (h : Fin 2) (c : more (wE t (hw h)) = 1#1) : Fin 36 := ⟨(nextOf (wE t (hw h))).toNat, by rw [wE_next]; exact (wE_more t h).1 c⟩
def nP (t : Fin loop.trips) (h : Fin 2) (c : more (wP t (hw h)) = 1#1) : Fin 36 := ⟨(nextOf (wP t (hw h))).toNat, by rw [wP_next]; exact (wP_more t h).1 c⟩

variable (O : Operands sig)

/-- Half `h` of an iteration. -/
def half (t : Fin loop.trips) (h h' : Fin 2) : Prog (TpuEff nD τ sig (Elt F) Λ₀ .tc) PUnit := do
  gateUp O (eE t h) (sE t h) h
  combine O (ePP t h) h
  down O (eP t h) (sP t h) h'
  if c : more (wE t (hw h)) = 1#1 then startGU O (nE t h c) (sE t h) else pure ⟨⟩
  if c : more (wP t (hw h)) = 1#1 then startDn O (nP t h c) (sP t h) else pure ⟨⟩

def step (t : Fin loop.trips) : Prog (TpuEff nD τ sig (Elt F) Λ₀ .tc) PUnit := do
  half O t ⟨0, by decide⟩ ⟨1, by decide⟩
  half O t ⟨1, by decide⟩ ⟨0, by decide⟩

/-- Before the loop. -/
def before : Prog (TpuEff nD τ sig (Elt F) Λ₀ .tc) PUnit := do
  startSmall O
  seqN 13 (startSlot O)
  clearHq O
  waitSmall O
  gateUp O ⟨0, by decide⟩ ⟨0, by decide⟩ ⟨0, by decide⟩
  startGU O ⟨13, by decide⟩ ⟨0, by decide⟩
  gateUp O ⟨1, by decide⟩ ⟨1, by decide⟩ ⟨1, by decide⟩
  down O ⟨0, by decide⟩ ⟨0, by decide⟩ ⟨0, by decide⟩
  startGU O ⟨14, by decide⟩ ⟨1, by decide⟩
  startDn O ⟨13, by decide⟩ ⟨0, by decide⟩

/-- After the loop. -/
def after : Prog (TpuEff nD τ sig (Elt F) Λ₀ .tc) PUnit := do
  combine O ⟨34, by decide⟩ ⟨0, by decide⟩
  down O ⟨35, by decide⟩ ⟨9, by decide⟩ ⟨1, by decide⟩
  combine O ⟨35, by decide⟩ ⟨1, by decide⟩

/-- The same in two parts, cut between the first product of expert 35 and its scaling. -/
def afterA : Prog (TpuEff nD τ sig (Elt F) Λ₀ .tc) (Σ' (_ : BitVec 32) (_ : FVec F S80x1 .f32) (_ : FVec F S80x1 .f32), FVec F S80x512 .f32) := do
  combine O ⟨34, by decide⟩ ⟨0, by decide⟩
  waitD O.wd O.hwd O.bd O.hbd O.semD ⟨35, by decide⟩ ⟨9, by decide⟩
  let hs : Vec F S1x80x128 .f32 ← Prog.lift (.load O.hs (Rect.unit (s := S2x80x128) ![1, 0, 0] S1x80x128.size (inbHs ⟨1, by decide⟩)).toLoadRect (View.loadsAt_vmem posS1x80x128))
  let r : Vec F S1x80x128 .f32 ← Prog.lift (.load O.r (Rect.unit (s := S36x80x128) ![35, 0, 0] S1x80x128.size (inbR ⟨35, by decide⟩)).toLoadRect (View.loadsAt_vmem posS1x80x128))
  let hq : Vec F S1x96x512 .fp8e4m3 ← Prog.lift (.load O.hq (Rect.unit (s := S2x96x512) ![1, 0, 0] S1x96x512.size (inbHq ⟨1, by decide⟩)).toLoadRect (View.loadsAt_vmem posS1x96x512))
  let w : Vec F S1x512x512 .fp8e4m3 ← Prog.lift (.load O.bd (Rect.unit (s := S13x512x1536) ![9, 0, 0] S1x512x512.size (inbWd ⟨9, by decide⟩ ⟨0, by decide⟩)).toLoadRect (View.loadsAt_vmem posS1x512x512))
  pure ⟨Scalar.remsi 35#32 13#32, lane0 hs, lane0 r, downMul (lane0 hs) hq w⟩
def afterB (x : Σ' (_ : BitVec 32) (_ : FVec F S80x1 .f32) (_ : FVec F S80x1 .f32), FVec F S80x512 .f32) :
    Prog (TpuEff nD τ sig (Elt F) Λ₀ .tc) PUnit := do
  let s : Vec F S1x512 .f32 ← Prog.lift (.load O.bsd (Rect.unit (s := S36x1536) ![35, 0] S1x512.size (inbSd ⟨35, by decide⟩ ⟨0, by decide⟩)).toLoadRect (View.loadsAt_vmem posS1x512))
  seqN 10 fun i => seqN 4 fun j => storeTile O ⟨1, by decide⟩ ⟨0, by decide⟩ (downFin x.2.2.1 x.2.2.2 s) i j
  downCols O ⟨35, by decide⟩ ⟨9, by decide⟩ ⟨1, by decide⟩ x.2.1 x.2.2.1 ⟨1, by decide⟩
  downCols O ⟨35, by decide⟩ ⟨9, by decide⟩ ⟨1, by decide⟩ x.2.1 x.2.2.1 ⟨2, by decide⟩
  combine O ⟨35, by decide⟩ ⟨1, by decide⟩

set_option maxRecDepth 100000 in
theorem after_eq : (afterA O >>= afterB O : Prog (TpuEff nD τ sig (Elt F) Λ₀ .tc) PUnit) = after O := by
  sl_kernel_rfl

/-- The body. -/
def body : Prog (TpuEff nD τ sig (Elt F) Λ₀ .tc) PUnit := do
  before O
  Scf.Loop.for loop loop_ok ⟨⟩ fun t _ => step O t
  after O

end Ffn
-- ==== Proof.SameK.lean ====
/-
  The printed body is the body written in steps.
-/
module

public import proofs.«01_k».proof.Kernel
public import proofs.«01_k».proof.Proof.Gen.Kernel
public import proofs.«01_k».proof.Proof.Gen.Kernel.Skeleton
public import proofs.«01_k».proof.Proof.Steps
public import Idealize.ShloMosaic.Lib.Tactic

@[expose] public section

set_option maxRecDepth 100000

noncomputable section

namespace Cert.Kernel.Hand

open Cert.Kernel Cert.Kernel.Gen Idealize.ShloMosaic Idealize.ShloMosaic.Tactic Idealize.SL.Sem

variable {F : FTy → Type} [FloatOps F]

section
variable
    (arg0 : Memref sig .tc .vmem S36x96x1536 .fp8e4m3) (harg0 : arg0.IsWhole) (arg1 : Memref sig .tc .vmem S36x80x128 .f32)
    (harg1 : arg1.IsWhole) (arg2 : Memref sig .tc .vmem S36x80x128 .f32) (harg2 : arg2.IsWhole)
    (arg3 : Memref sig .tc .hbm S36x1536x512 .fp8e4m3) (harg3 : arg3.IsWhole) (arg4 : Memref sig .tc .hbm S36x1536x512 .fp8e4m3)
    (harg4 : arg4.IsWhole) (arg5 : Memref sig .tc .hbm S36x512 .f32) (harg5 : arg5.IsWhole) (arg6 : Memref sig .tc .hbm S36x512 .f32)
    (harg6 : arg6.IsWhole) (arg7 : Memref sig .tc .hbm S36x512x1536 .fp8e4m3) (harg7 : arg7.IsWhole)
    (arg8 : Memref sig .tc .hbm S36x1536 .f32) (harg8 : arg8.IsWhole) (arg9 : Memref sig .tc .vmem S36x960x128 .f32) (harg9 : arg9.IsWhole)
    (arg10 : Memref sig .tc .vmem S13x1536x512 .fp8e4m3) (harg10 : arg10.IsWhole) (arg11 : Memref sig .tc .vmem S13x1536x512 .fp8e4m3)
    (harg11 : arg11.IsWhole) (arg12 : Memref sig .tc .vmem S13x512x1536 .fp8e4m3) (harg12 : arg12.IsWhole)
    (arg13 : Memref sig .tc .vmem S36x512 .f32) (harg13 : arg13.IsWhole) (arg14 : Memref sig .tc .vmem S36x512 .f32)
    (harg14 : arg14.IsWhole) (arg15 : Memref sig .tc .vmem S36x1536 .f32) (harg15 : arg15.IsWhole)
    (arg16 : Memref sig .tc .vmem S2x96x512 .fp8e4m3) (harg16 : arg16.IsWhole) (arg17 : Memref sig .tc .vmem S2x80x128 .f32)
    (harg17 : arg17.IsWhole) (arg18 : Memref sig .tc .vmem S2x960x128 .f32) (harg18 : arg18.IsWhole) (arg19 : DmaSems sig S6)
    (arg20 : DmaSems sig S13) (arg21 : DmaSems sig S13) (arg22 : DmaSems sig S13)

/-- One trip of the loop: each of the seventeen trips decides its conditions. -/
theorem step_eq (t : Fin k0_t1_loop.trips) :
    k0_t1_body (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32 t ()
      = Ffn.step ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ t := by
  revert t
  show ∀ t : Fin 17, _
  intro t
  fin_cases t <;> sl_kernel_rfl

/-- The whole body, its loop as it is printed. -/
theorem body_eq₀ :
    cc0_expert_choice_moe (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22
      = (Ffn.before ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ >>= fun _ =>
        ((Scf.Loop.for Ffn.loop Ffn.loop_ok ⟨⟩ (k0_t1_body
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32)
          >>= fun _ => Ffn.afterA ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩) >>= Ffn.afterB ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩)) := by
  sl_kernel_rfl

/-- The whole body. -/
theorem body_eq :
    cc0_expert_choice_moe (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22
      = Ffn.body ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ := by
  rw [body_eq₀]
  have hb : (k0_t1_body (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32)
      = fun t _ => Ffn.step ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ t := funext fun t => funext fun _ => step_eq (t := t) ..
  rw [hb]
  simp only [bind_assoc, Ffn.body, ← Ffn.after_eq]

end

end Cert.Kernel.Hand
-- ==== Proof.Rules.lean ====
/-
  One step of a program at a time: a load, a store, a copy started and a copy awaited, each stated of the memory
  it works on by what that memory reads as.
-/
module

public import Idealize.ShloMosaic.Lib.Memref
public import Idealize.ShloMosaic.Lib.Transfers
public import Idealize.ShloMosaic.Lib.Tactic

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

section Views

variable (c : Thread nD τ) {sp : Space} {sh : Shape} {e : EltTy} (m : Memref sig c.2.kind sp sh e) (q : PosShare TreeShare)

/-- Owning a memref with its unit axes dropped is owning the memref. -/
theorem owns_squeeze {s' : Shape} (h : sh.Squeezes s') (X : sh.Idx → Val e) :
    (owns c (m.squeeze s' h) q (fun j => X (Shape.reshapeEquiv h.numel_eq j)) : sProp 𝕄) = owns c m q X := by
  have hr (f : m.view.ty.Contents Val) :
      (m.squeeze s' h).view.read Val f = (fun j => X (Shape.reshapeEquiv h.numel_eq j)) ↔ m.view.read Val f = X := by
    constructor
    · intro hh
      funext i
      obtain ⟨j, rfl⟩ := (Shape.reshapeEquiv h.numel_eq).surjective i
      exact congrFun hh j
    · rintro rfl; rfl
  have hs : (m.squeeze s' h).view.set = m.view.set := View.set_reshape _ _
  have h₁ : (owns c (m.squeeze s' h) q (fun j => X (Shape.reshapeEquiv h.numel_eq j)) : sProp 𝕄) ⊢ owns c m q X := by
    unfold owns
    iintro ⟨%f, %hf, H⟩
    iexists f
    isplitr; · ipureintro; exact (hr f).mp hf
    rw [← hs]; iexact H
  have h₂ : (owns c m q X : sProp 𝕄) ⊢ owns c (m.squeeze s' h) q (fun j => X (Shape.reshapeEquiv h.numel_eq j)) := by
    unfold owns
    iintro ⟨%f, %hf, H⟩
    iexists f
    isplitr; · ipureintro; exact (hr f).mpr hf
    rw [hs]; iexact H
  exact BI.equiv_iff.mp ⟨h₁, h₂⟩

end Views

section Steps

variable {Λ : Labels} {defs : Defs nD τ sig Val Λ} (𝒱 : Variants) (c : Thread nD τ) (bd : Option 𝒱.V)

section Access

variable {cs : CoreSpace} {sh : Shape} {e : EltTy} {m : Memref sig c.2.kind cs sh e}

/-- A load from memory owned whole. -/
theorem wp_ld {r : LoadRect sh} {hl : m.view.LoadsAt r} {q : PosShare TreeShare} {X : sh.Idx → Val e}
    {Q : (r.shape.Idx → Val e) → sProp 𝕄} :
    (owns c m q X : sProp 𝕄)
      ⊢ iprop((owns c m q X -∗ Q (fun i => X (r.idx i)))
        -∗ wp frame (wpE defs 𝒱 c bd) Set.univ (Prog.lift (.load m r hl)) Q) := by
  unfold owns
  iintro ⟨%f, %hf, H⟩ HK
  subst hf
  iapply (wp_load 𝒱 c bd Set.univ (r := r) (hl := hl) (k := .ret) (S := m.view.set) (Finset.map_subset_map.mpr (Finset.subset_univ _))) $$ H
  iintro H
  iapply le_wp_ret
  rw [show m.view.readAt Val r f = fun i => m.view.read Val f (r.idx i) from rfl]
  iapply HK
  iexists f
  isplitr; · ipureintro; rfl
  iexact H

/-- A load of a part of a slice that is owned. -/
theorem wp_ld_sub {rs : Rect sh} {hrs : ∀ a, rs.stride a = 1} {r : LoadRect sh} {hl : m.view.LoadsAt r} {q : PosShare TreeShare}
    {X : rs.shape.Idx → Val e} (j : r.shape.Idx → rs.shape.Idx) (hj : ∀ i, r.idx i = rs.emb (j i))
    {Q : (r.shape.Idx → Val e) → sProp 𝕄} :
    (owns c (m.slice rs hrs) q X : sProp 𝕄)
      ⊢ iprop((owns c (m.slice rs hrs) q X -∗ Q (fun i => X (j i)))
        -∗ wp frame (wpE defs 𝒱 c bd) Set.univ (Prog.lift (.load m r hl)) Q) := by
  unfold owns
  iintro ⟨%f, %hf, H⟩ HK
  subst hf
  have hS : m.view.setOn r.set ⊆ (m.slice rs hrs).view.set := by
    intro x hx
    obtain ⟨y, hy, rfl⟩ := Finset.mem_map.mp hx
    obtain ⟨i, rfl⟩ := r.exists_idx_of_mem hy
    rw [hj]
    exact Finset.mem_map_of_mem (m.slice rs hrs).view.emb (Finset.mem_univ (j i))
  have hv : m.view.readAt Val r f = fun i => (m.slice rs hrs).view.read Val f (j i) := by
    funext i
    show m.view.read Val f (r.idx i) = m.view.read Val f (rs.emb (j i))
    rw [hj]
  iapply (wp_load 𝒱 c bd Set.univ (r := r) (hl := hl) (k := .ret) (S := (m.slice rs hrs).view.set) hS) $$ H
  iintro H
  iapply le_wp_ret
  rw [hv]
  iapply HK
  iexists f
  isplitr; · ipureintro; rfl
  iexact H

/-- A store into memory owned whole: what it wrote is there, the rest as before. -/
theorem wp_st {r : Rect sh} {w : r.shape.Idx → Val e} {hx : (m.access r).Stores Finset.univ}
    {hm : Finset.univ = (Finset.univ : Finset r.shape.Idx) ∨ ∀ a, r.stride a = 1} {X : sh.Idx → Val e} {Q : PUnit → sProp 𝕄} :
    (owns c m fullShare X : sProp 𝕄)
      ⊢ iprop(((∃ X', ⌜(∀ i, X' (r.emb i) = w i) ∧ ∀ k, (∀ i, r.emb i ≠ k) → X' k = X k⌝ ∗ owns c m fullShare X') -∗ Q ⟨⟩)
        -∗ wp frame (wpE defs 𝒱 c bd) Set.univ (Prog.lift (.store m r w Finset.univ hx hm)) Q) := by
  unfold owns
  iintro ⟨%f, %hf, H⟩ HK
  subst hf
  have hS : (m.access r).setOn Finset.univ ⊆ m.view.set := by
    intro x hx
    obtain ⟨y, hy, rfl⟩ := Finset.mem_map.mp hx
    exact Finset.mem_map_of_mem m.view.emb (Finset.mem_univ (r.emb y))
  iapply (wp_store 𝒱 c bd Set.univ (r := r) (w := w) (hx := hx) (hm := hm) (k := .ret) (S := m.view.set) hS) $$ H
  iintro H
  iapply le_wp_ret
  iapply HK
  iexists m.view.read Val ((m.access r).write Val f w Finset.univ)
  isplitr
  · ipureintro
    constructor
    · intro i; exact View.read_slice_write_emb r f w (Finset.mem_univ i)
    · intro k hk
      refine View.read_slice_write_of_not_mem r f w Finset.univ ?_
      intro hmem
      obtain ⟨i, -, hi⟩ := Finset.mem_map.mp hmem
      exact hk i hi
  · iexists _
    isplitr; · ipureintro; rfl
    iexact H

/-- A store into a part of a slice that is owned. -/
theorem wp_st_sub {rs : Rect sh} {hrs : ∀ a, rs.stride a = 1} {r : Rect sh} {w : r.shape.Idx → Val e} {hx : (m.access r).Stores Finset.univ}
    {hm : Finset.univ = (Finset.univ : Finset r.shape.Idx) ∨ ∀ a, r.stride a = 1} {X : rs.shape.Idx → Val e}
    (j : r.shape.Idx → rs.shape.Idx) (hj : ∀ i, r.emb i = rs.emb (j i)) {Q : PUnit → sProp 𝕄} :
    (owns c (m.slice rs hrs) fullShare X : sProp 𝕄)
      ⊢ iprop(((∃ X', ⌜(∀ i, X' (j i) = w i) ∧ ∀ k, (∀ i, j i ≠ k) → X' k = X k⌝ ∗ owns c (m.slice rs hrs) fullShare X') -∗ Q ⟨⟩)
        -∗ wp frame (wpE defs 𝒱 c bd) Set.univ (Prog.lift (.store m r w Finset.univ hx hm)) Q) := by
  unfold owns
  iintro ⟨%f, %hf, H⟩ HK
  subst hf
  have hS : (m.access r).setOn Finset.univ ⊆ (m.slice rs hrs).view.set := by
    intro x hx
    obtain ⟨y, hy, rfl⟩ := Finset.mem_map.mp hx
    have : (m.access r).emb y = (m.slice rs hrs).view.emb (j y) := by
      show m.view.emb (r.emb y) = m.view.emb (rs.emb (j y))
      rw [hj]
    rw [this]
    exact Finset.mem_map_of_mem (m.slice rs hrs).view.emb (Finset.mem_univ (j y))
  iapply (wp_store 𝒱 c bd Set.univ (r := r) (w := w) (hx := hx) (hm := hm) (k := .ret) (S := (m.slice rs hrs).view.set) hS) $$ H
  iintro H
  iapply le_wp_ret
  iapply HK
  iexists (m.slice rs hrs).view.read Val ((m.access r).write Val f w Finset.univ)
  isplitr
  · ipureintro
    constructor
    · intro i
      show m.view.read Val _ (rs.emb (j i)) = _
      rw [← hj]
      exact View.read_slice_write_emb r f w (Finset.mem_univ i)
    · intro k hk
      show m.view.read Val _ (rs.emb k) = m.view.read Val _ (rs.emb k)
      refine View.read_slice_write_of_not_mem r f w Finset.univ ?_
      intro hmem
      obtain ⟨i, -, hi⟩ := Finset.mem_map.mp hmem
      exact hk i (rs.emb.injective ((hj i).symm.trans hi))
  · iexists _
    isplitr; · ipureintro; rfl
    iexact H

end Access

section Copy

variable (EC : UEmb Counters (MT nD τ sig Unit Val ℕ U ℕ)) [EC.LandsIn (upEmb : UEmb _ (MT nD τ sig Unit Val ℕ U ℕ))]
variable {sp sp' : Space} {sh : Shape} {e : EltTy}

/-- Starting a copy: the destination and the source go with it. -/
theorem wp_copy {src : Memref sig c.2.kind sp sh e} {dst : Memref sig c.2.kind sp' sh e} {sm : DmaSem sig}
    {hsrc : src.view.WordExact} {hdst : dst.view.WordExact} {hsem : DmaTarget.Typed (nD := nD) sp (.dma sm) (.here dst)}
    {q : PosShare TreeShare} {X Y : sh.Idx → Val e} (hN0 : 0 < dst.view.dmaCredit) {Q : PUnit → sProp 𝕄} :
    iprop(owns c src q X ∗ owns c dst fullShare Y ∗ semVal (c, .dma sm) 0)
      ⊢ iprop((Transfers.Flight EC c (.dma sm) () dst.view.dmaCredit iprop(owns c dst fullShare X ∗ owns c src q X) -∗ Q ⟨⟩)
        -∗ wp frame (wpE defs 𝒱 c bd) Set.univ (Prog.lift (.enqueueDma src (.here dst) (.dma sm) hsrc hdst hsem)) Q) := by
  iintro ⟨Hs, Hd, Hv⟩ HK
  ihave Hs' := (show owns c src q X ⊢ iprop(∃ f, ⌜src.view.read Val f = X⌝ ∗ (src.view.loc c ↦[src.view.set]{q} f)) from .rfl) $$ Hs
  ihave Hd' := (show owns c dst fullShare Y ⊢ iprop(∃ f, ⌜dst.view.read Val f = Y⌝ ∗ (dst.view.loc c ↦[dst.view.set]{fullShare} f)) from .rfl) $$ Hd
  icases Hs' with ⟨%fs, %hfs, Hs⟩
  icases Hd' with ⟨%fd, %hfd, Hd⟩
  iapply (Transfers.wp_dmaLocal EC 𝒱 c bd (src := src) (dst := dst) (via := .same) (sm := .dma sm) (hsrc := hsrc) (hdst := hdst) (hsem := hsem)
    (k := .ret) () dst.view.dmaCredit rfl hN0 (Finset.Subset.refl _)) $$ [Hs Hd Hv]
  · isplitl [Hs]; · iexact Hs
    isplitl [Hd]; · iexact Hd
    iexact Hv
  iintro HF
  iapply le_wp_ret
  iapply HK
  iapply (Transfers.Flight_mono EC c ?_) $$ HF
  unfold owns
  iintro ⟨Hd, Hs⟩
  isplitl [Hd]
  · iexists _
    isplitr
    rotate_left
    · iexact Hd
    · ipureintro
      rw [View.read_write_univ]
      exact hfs
  · iexists fs
    isplitr; · ipureintro; exact hfs
    iexact Hs

/-- Awaiting a copy: the destination and the source come back. -/
theorem wp_await {sm : DmaSem sig} {s' : Shape} {e' : EltTy} {κ' : Kind}
    {srcw : Memref sig c.2.kind sp' s' e'} {dstw : Memref sig κ' sp sh e} {hsrc : srcw.view.WordExact} {hdst : dstw.view.WordExact}
    {D : sProp 𝕄} {Q : PUnit → sProp 𝕄} :
    iprop(Transfers.Flight EC c (.dma sm) () dstw.view.dmaCredit D ∗ ∃ W, owes c 0 W)
      ⊢ iprop((iprop(D ∗ semVal (c, .dma sm) 0 ∗ ∃ W, owes c 0 W) -∗ Q ⟨⟩)
        -∗ wp frame (wpE defs 𝒱 c bd) Set.univ (Prog.lift (.waitDma2 sm srcw dstw hsrc hdst)) Q) := by
  iintro ⟨HF, ⟨%W, HW⟩⟩ HK
  iapply (Transfers.wp_waitLocal EC 𝒱 c bd (sem := sm) (srcw := srcw) (dstw := dstw) (hsrc := hsrc) (hdst := hdst) (k := .ret) () rfl) $$ [HF HW]
  · isplitl [HF]; · iexact HF
    iexact HW
  iintro ⟨HD, Hv, HW⟩
  iapply le_wp_ret
  iapply HK
  isplitl [HD]; · iexact HD
  isplitl [Hv]; · iexact Hv
  iexists _; iexact HW

end Copy

end Steps

end Ffn
-- ==== Proof.Ring.lean ====
/-
  A ring of thirteen slots that thirty-six blocks pass through.

  Block `e` travels through slot `e % 13`. A block is idle (its source is here), in flight (source and slot are with the
  copy), or kept (its source is here, and so is its slot, which no later block needs).
-/
module

public import proofs.«01_k».proof.Proof.Rules
public import proofs.«01_k».proof.Proof.Steps

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-- Where a block is. -/
inductive St where
  | idle
  | fly
  | keep
deriving DecidableEq

/-- The slot of a block. -/
def sl (e : Fin 36) : Fin 13 := ⟨e.val % 13, Nat.mod_lt _ (by decide)⟩

/-- The blocks once `t` of them have been used: the last thirteen keep their slots. -/
def stAt (t : ℕ) (e : Fin 36) : St := if e.val < t then (if 23 ≤ e.val then .keep else .idle) else if e.val < t + 13 then .fly else .idle

/-- The blocks once the first `j` copies have been started. -/
def stInit (j : ℕ) (e : Fin 36) : St := if e.val < j then .fly else .idle

theorem stInit_last : stInit 13 = stAt 0 := by funext e; revert e; decide

theorem stAt_fly (e : Fin 36) : stAt e.val e = .fly := by simp [stAt]

theorem stInit_idle (e : Fin 36) : stInit e.val e = .idle := by simp [stInit]

theorem stInit_step (e : Fin 36) : Function.update (stInit e.val) e .fly = stInit (e.val + 1) := by
  revert e; decide

theorem stAt_more : ∀ e e' : Fin 36, e'.val = e.val + 13 →
    Function.update (stAt e.val) e .idle e' = .idle
      ∧ Function.update (Function.update (stAt e.val) e .idle) e' .fly = stAt (e.val + 1) := by decide +kernel

theorem stAt_last : ∀ e : Fin 36, 23 ≤ e.val →
    Function.update (Function.update (stAt e.val) e .idle) e .keep = stAt (e.val + 1) := by decide +kernel

section Ring

variable (EC : UEmb Counters (MT nD τ sig Unit Val ℕ U ℕ)) (c : Thread nD τ)
variable {sp sp' : Space} {sh : Shape} {e : EltTy} (src : Fin 36 → Memref sig c.2.kind sp sh e) (dst : Fin 13 → Memref sig c.2.kind sp' sh e)
  (cl : Fin 13 → DmaSem sig) (V : Fin 36 → sh.Idx → Val e)

/-- A slot that is here, at contents `Y`. -/
def Slot (k : Fin 13) (Y : sh.Idx → Val e) : sProp 𝕄 := iprop(owns c (dst k) fullShare Y ∗ semVal (c, .dma (cl k)) 0)

/-- What is held of one block. -/
def RingAt (s : St) (i : Fin 36) : sProp 𝕄 :=
  match s with
  | .idle => owns c (src i) fullShare (V i)
  | .fly => Transfers.Flight EC c (.dma (cl (sl i))) () (dst (sl i)).view.dmaCredit
      iprop(owns c (dst (sl i)) fullShare (V i) ∗ owns c (src i) fullShare (V i))
  | .keep => iprop(owns c (src i) fullShare (V i) ∗ ∃ Y, Slot c dst cl (sl i) Y)

/-- What is held of the ring. -/
def Ring (σ : Fin 36 → St) : sProp 𝕄 := bigSep Finset.univ fun i => RingAt EC c src dst cl V (σ i) i

theorem ring_update (σ : Fin 36 → St) (i : Fin 36) (s : St) :
    Ring EC c src dst cl V σ
      ⊢ iprop(RingAt EC c src dst cl V (σ i) i ∗ (RingAt EC c src dst cl V s i -∗ Ring EC c src dst cl V (Function.update σ i s))) := by
  have h₁ : Ring EC c src dst cl V σ
      = iprop(RingAt EC c src dst cl V (σ i) i ∗ bigSep (Finset.univ.erase i) fun j => RingAt EC c src dst cl V (σ j) j) :=
    bigSep_univ_split i
  have h₂ : Ring EC c src dst cl V (Function.update σ i s)
      = iprop(RingAt EC c src dst cl V s i ∗ bigSep (Finset.univ.erase i) fun j => RingAt EC c src dst cl V (σ j) j) := by
    unfold Ring
    rw [bigSep_univ_split i, Function.update_self,
      bigSep_congr (s := Finset.univ.erase i) (Φ := fun j => RingAt EC c src dst cl V (Function.update σ i s j) j)
        (Ψ := fun j => RingAt EC c src dst cl V (σ j) j)
        (fun j hj => by rw [Function.update_of_ne (Finset.ne_of_mem_erase hj)])]
    rfl
  rw [h₁, h₂]
  iintro ⟨Ha, Hr⟩
  isplitl [Ha]; · iexact Ha
  iintro Hs
  isplitl [Hs]; · iexact Hs
  iexact Hr

variable {Λ : Labels} {defs : Defs nD τ sig Val Λ} (𝒱 : Variants) (bd : Option 𝒱.V)
variable [EC.LandsIn (upEmb : UEmb _ (MT nD τ sig Unit Val ℕ U ℕ))]

/-- Awaiting block `i`: its slot comes here, filled. -/
theorem ring_wait {σ : Fin 36 → St} {i : Fin 36} {k : Fin 13} (hk : k = sl i) (hσ : σ i = .fly)
    {s' : Shape} {e' : EltTy} {sp'' : Space} {srcw : Memref sig c.2.kind sp'' s' e'} {hsrc : srcw.view.WordExact} {hdst : (dst k).view.WordExact}
    {Q : PUnit → sProp 𝕄} :
    iprop(Ring EC c src dst cl V σ ∗ ∃ W, owes c 0 W)
      ⊢ iprop((iprop(Ring EC c src dst cl V (Function.update σ i .idle) ∗ Slot c dst cl k (V i) ∗ ∃ W, owes c 0 W) -∗ Q ⟨⟩)
        -∗ wp frame (wpE defs 𝒱 c bd) Set.univ (Prog.lift (.waitDma2 (cl k) srcw (dst k) hsrc hdst)) Q) := by
  subst hk
  iintro ⟨HR, HW⟩ HK
  ihave HR' := (ring_update EC c src dst cl V σ i .idle) $$ HR
  rw [hσ]
  unfold RingAt Slot
  icases HR' with ⟨Hf, Hback⟩
  iapply (wp_await 𝒱 c bd EC (sm := cl (sl i)) (dstw := dst (sl i))) $$ [Hf HW]
  · isplitl [Hf]; · iexact Hf
    iexact HW
  iintro ⟨⟨Hd, Hs⟩, Hv, HW⟩
  iapply HK
  isplitl [Hback Hs]; · iapply Hback; iexact Hs
  isplitl [Hd Hv]
  · isplitl [Hd]; · iexact Hd
    iexact Hv
  iexact HW

/-- Starting block `i`: its slot goes. -/
theorem ring_start {σ : Fin 36 → St} {i : Fin 36} {k : Fin 13} (hk : k = sl i) (hσ : σ i = .idle)
    (hN : 0 < (dst k).view.dmaCredit) {Y : sh.Idx → Val e}
    {hsrc : (src i).view.WordExact} {hdst : (dst k).view.WordExact} {hsem : DmaTarget.Typed (nD := nD) sp (.dma (cl k)) (.here (dst k))}
    {Q : PUnit → sProp 𝕄} :
    iprop(Ring EC c src dst cl V σ ∗ Slot c dst cl k Y)
      ⊢ iprop((Ring EC c src dst cl V (Function.update σ i .fly) -∗ Q ⟨⟩)
        -∗ wp frame (wpE defs 𝒱 c bd) Set.univ (Prog.lift (.enqueueDma (src i) (.here (dst k)) (.dma (cl k)) hsrc hdst hsem)) Q) := by
  subst hk
  iintro ⟨HR, HS⟩ HK
  ihave HR' := (ring_update EC c src dst cl V σ i .fly) $$ HR
  rw [hσ]
  unfold RingAt Slot
  icases HR' with ⟨Hs, Hback⟩
  icases HS with ⟨Hd, Hv⟩
  iapply (wp_copy 𝒱 c bd EC (src := src i) (dst := dst (sl i)) (sm := cl (sl i)) hN) $$ [Hs Hd Hv]
  · isplitl [Hs]; · iexact Hs
    isplitl [Hd]; · iexact Hd
    iexact Hv
  iintro Hf
  iapply HK
  iapply Hback
  iexact Hf

/-- Keeping the slot of a block with no successor. -/
theorem ring_keep {σ : Fin 36 → St} {i : Fin 36} {k : Fin 13} (hk : k = sl i) (hσ : σ i = .idle) {Y : sh.Idx → Val e} :
    iprop(Ring EC c src dst cl V σ ∗ Slot c dst cl k Y) ⊢ Ring EC c src dst cl V (Function.update σ i .keep) := by
  subst hk
  iintro ⟨HR, HS⟩
  ihave HR' := (ring_update EC c src dst cl V σ i .keep) $$ HR
  rw [hσ]
  unfold RingAt
  icases HR' with ⟨Hs, Hback⟩
  iapply Hback
  isplitl [Hs]; · iexact Hs
  iexists Y; iexact HS

/-- The slots not yet given to a first copy. -/
def Free (j : ℕ) : sProp 𝕄 := bigSep Finset.univ fun k : Fin 13 => if k.val < j then iprop(emp) else iprop(∃ Y, Slot c dst cl k Y)

theorem free_take (k : Fin 13) : (Free c dst cl k.val : sProp 𝕄) ⊢ iprop((∃ Y, Slot c dst cl k Y) ∗ Free c dst cl (k.val + 1)) := by
  have h₁ : (Free c dst cl k.val : sProp 𝕄) = iprop((∃ Y, Slot c dst cl k Y)
      ∗ bigSep (Finset.univ.erase k) fun k' : Fin 13 => if k'.val < k.val then iprop(emp) else iprop(∃ Y, Slot c dst cl k' Y)) := by
    unfold Free
    rw [bigSep_univ_split k, if_neg (lt_irrefl _)]
    rfl
  have h₂ : (Free c dst cl (k.val + 1) : sProp 𝕄) = iprop(emp
      ∗ bigSep (Finset.univ.erase k) fun k' : Fin 13 => if k'.val < k.val then iprop(emp) else iprop(∃ Y, Slot c dst cl k' Y)) := by
    unfold Free
    rw [bigSep_univ_split k, if_pos (Nat.lt_succ_self _),
      bigSep_congr (s := Finset.univ.erase k) (Φ := fun k' : Fin 13 => if k'.val < k.val + 1 then iprop(emp) else iprop(∃ Y, Slot c dst cl k' Y))
        (Ψ := fun k' : Fin 13 => if k'.val < k.val then iprop(emp) else iprop(∃ Y, Slot c dst cl k' Y))
        (fun j hj => by
          have hne : j.val ≠ k.val := fun h => Finset.ne_of_mem_erase hj (Fin.ext h)
          have : (j.val < k.val + 1) ↔ (j.val < k.val) := by omega
          simp only [this])]
    rfl
  rw [h₁, h₂]
  iintro ⟨Ha, Hr⟩
  isplitl [Ha]; · iexact Ha
  isplitr; · iempintro
  iexact Hr

theorem free_last : (Free c dst cl 13 : sProp 𝕄) ⊢ (iprop(emp) : sProp 𝕄) := by
  iintro -
  iempintro

end Ring

/-- Steps in order, by an invariant. -/
theorem wp_seqN {F : FTy → Type} [FloatOps F] {Λ : Labels} {defs : Defs nD τ sig (Elt F) Λ} (𝒱 : Variants) (d : Dev nD) (bd : Option 𝒱.V) :
    ∀ (n : ℕ) (f : Fin n → Prog (TpuEff nD τ sig (Elt F) Λ .tc) PUnit) (I : ℕ → sProp (MT nD τ sig Unit (Elt F) ℕ U ℕ)),
      (∀ (i : Fin n) (Q : PUnit → sProp (MT nD τ sig Unit (Elt F) ℕ U ℕ)),
        I i.val ⊢ iprop((I (i.val + 1) -∗ Q ⟨⟩) -∗ wp frame (wpE defs 𝒱 (d : Thread nD τ) bd) Set.univ (f i) Q)) →
      ∀ Q : PUnit → sProp (MT nD τ sig Unit (Elt F) ℕ U ℕ),
        I 0 ⊢ iprop((I n -∗ Q ⟨⟩) -∗ wp frame (wpE defs 𝒱 (d : Thread nD τ) bd) Set.univ (seqN n f) Q)
  | 0, f, I, h, Q => by
    iintro HI HK
    unfold seqN
    iapply le_wp_ret
    iapply HK
    iexact HI
  | n + 1, f, I, h, Q => by
    have ih := wp_seqN (defs := defs) 𝒱 d bd n (fun i => f i.succ) (fun j => I (j + 1)) (fun i Q => h i.succ Q) Q
    have h0 := h ⟨0, Nat.succ_pos n⟩ (fun _ => wp frame (wpE defs 𝒱 (d : Thread nD τ) bd) Set.univ (seqN n fun i => f i.succ) Q)
    iintro HI HK
    unfold seqN
    rw [wp_bind]
    iapply h0 $$ HI
    iintro HI
    iapply ih $$ HI
    iexact HK

end Ffn
-- ==== Proof.Gate.lean ====
/-
  The first half of an expert: its two weight blocks awaited, its gated activation quantised into a half of
  the codes' buffer.
-/
module

public import proofs.«01_k».proof.Proof.Ring

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What the body computes, expert by expert -/

/-- The contents of the nine argument arrays. -/
structure Vals (F : FTy → Type) where
  XG : S36x96x1536.Idx → Elt F .fp8e4m3
  XS : S36x80x128.Idx → Elt F .f32
  R : S36x80x128.Idx → Elt F .f32
  WG : S36x1536x512.Idx → Elt F .fp8e4m3
  WU : S36x1536x512.Idx → Elt F .fp8e4m3
  SG : S36x512.Idx → Elt F .f32
  SU : S36x512.Idx → Elt F .f32
  WD : S36x512x1536.Idx → Elt F .fp8e4m3
  SD : S36x1536.Idx → Elt F .f32

variable {F : FTy → Type} [FloatOps F]

/-- One expert's part of each kind of array. -/
def blkX (X : S36x96x1536.Idx → Elt F .fp8e4m3) (e : Fin 36) : Vec F S1x96x1536 .fp8e4m3 :=
  fun i => X ((Rect.unit (s := S36x96x1536) ![e.val, 0, 0] S1x96x1536.size (inbX e)).toLoadRect.idx i)
def blkR (X : S36x80x128.Idx → Elt F .f32) (e : Fin 36) : Vec F S1x80x128 .f32 :=
  fun i => X ((Rect.unit (s := S36x80x128) ![e.val, 0, 0] S1x80x128.size (inbR e)).toLoadRect.idx i)
def blkS (X : S36x512.Idx → Elt F .f32) (e : Fin 36) : Vec F S1x512 .f32 :=
  fun i => X ((Rect.unit (s := S36x512) ![e.val, 0] S1x512.size (inbS e)).toLoadRect.idx i)
def blkSd (X : S36x1536.Idx → Elt F .f32) (e : Fin 36) (n : Fin 3) : Vec F S1x512 .f32 :=
  fun i => X ((Rect.unit (s := S36x1536) ![e.val, 512 * n.val] S1x512.size (inbSd e n)).toLoadRect.idx i)
def blkW (W : S36x1536x512.Idx → Elt F .fp8e4m3) (e : Fin 36) : Vec F S1x1536x512 .fp8e4m3 :=
  fun i => W ((Rect.unit (s := S36x1536x512) ![e.val, 0, 0] S1x1536x512.size (inbG36 e)).emb i)
def blkD (W : S36x512x1536.Idx → Elt F .fp8e4m3) (e : Fin 36) : Vec F S1x512x1536 .fp8e4m3 :=
  fun i => W ((Rect.unit (s := S36x512x1536) ![e.val, 0, 0] S1x512x1536.size (inbD36 e)).emb i)

theorem inbDn : ∀ (n : Fin 3) a, (![0, 0, 512 * n.val] : Fin 3 → Nat) a + S1x512x512.size a ≤ S1x512x1536.size a := by decide

/-- Five hundred and twelve columns of an expert's second weight block. -/
def blkDn (W : S36x512x1536.Idx → Elt F .fp8e4m3) (e : Fin 36) (n : Fin 3) : Vec F S1x512x512 .fp8e4m3 :=
  fun i => blkD W e ((Rect.unit (s := S1x512x1536) ![0, 0, 512 * n.val] S1x512x512.size (inbDn n)).emb i)

/-- A weight block as the copy moves it. -/
def moveG (W : S36x1536x512.Idx → Elt F .fp8e4m3) (e : Fin 36) : S1536x512.Idx → Elt F .fp8e4m3 :=
  fun j => blkW W e (Shape.reshapeEquiv sqG.numel_eq j)
def moveD (W : S36x512x1536.Idx → Elt F .fp8e4m3) (e : Fin 36) : S512x1536.Idx → Elt F .fp8e4m3 :=
  fun j => blkD W e (Shape.reshapeEquiv sqD.numel_eq j)

/-- The gated activation of expert `e`. -/
def hid (T : Vals F) (e : Fin 36) : FVec F S80x512 .f32 :=
  hidden (blkX T.XG e) (blkW T.WG e) (blkW T.WU e) (blkR T.XS e) (blkS T.SG e) (blkS T.SU e)

/-! ## The step -/

variable {nD : Nat} {τ : Topo} {sig : RefSig} {U : Type} [URA U] {Λ : Labels}

local notation "𝕄" => MT nD τ sig Unit (Elt F) ℕ U ℕ

section

variable (EC : UEmb Counters (MT nD τ sig Unit (Elt F) ℕ U ℕ)) [EC.LandsIn (upEmb : UEmb _ (MT nD τ sig Unit (Elt F) ℕ U ℕ))]
variable {defs : Defs nD τ sig (Elt F) Λ} (𝒱 : Variants) (d : Dev nD) (bd : Option 𝒱.V) (O : Operands sig) (T : Vals F)

/-- The ring of a weight array, and its slots. -/
abbrev RingG (w : Memref sig .tc .hbm S36x1536x512 .fp8e4m3) (b : Memref sig .tc .vmem S13x1536x512 .fp8e4m3) (s : DmaSems sig S13)
    (W : S36x1536x512.Idx → Elt F .fp8e4m3) (σ : Fin 36 → St) : sProp 𝕄 :=
  Ring EC (d : Thread nD τ) (srcG w) (dstG b) (cell s) (moveG W) σ
abbrev RingD (w : Memref sig .tc .hbm S36x512x1536 .fp8e4m3) (b : Memref sig .tc .vmem S13x512x1536 .fp8e4m3) (s : DmaSems sig S13)
    (W : S36x512x1536.Idx → Elt F .fp8e4m3) (σ : Fin 36 → St) : sProp 𝕄 :=
  Ring EC (d : Thread nD τ) (srcD w) (dstD b) (cell s) (moveD W) σ
abbrev SlotG (b : Memref sig .tc .vmem S13x1536x512 .fp8e4m3) (s : DmaSems sig S13) (k : Fin 13) (Y : S1536x512.Idx → Elt F .fp8e4m3) : sProp 𝕄 :=
  Slot (d : Thread nD τ) (dstG b) (cell s) k Y
abbrev SlotD (b : Memref sig .tc .vmem S13x512x1536 .fp8e4m3) (s : DmaSems sig S13) (k : Fin 13) (Y : S512x1536.Idx → Elt F .fp8e4m3) : sProp 𝕄 :=
  Slot (d : Thread nD τ) (dstD b) (cell s) k Y

/-- The halves of the three buffers. -/
def HqAt (h : Fin 2) (X : Vec F S1x96x512 .fp8e4m3) : sProp 𝕄 :=
  owns (d : Thread nD τ) (O.hq.slice (Rect.unit (s := S2x96x512) ![h.val, 0, 0] S1x96x512.size (inbHq h)) (fun _ => rfl)) fullShare X
def HsAt (h : Fin 2) (X : Vec F S1x80x128 .f32) : sProp 𝕄 :=
  owns (d : Thread nD τ) (O.hs.slice (Rect.unit (s := S2x80x128) ![h.val, 0, 0] S1x80x128.size (inbHs h)) (fun _ => rfl)) fullShare X
def YvAt (h : Fin 2) (X : Vec F S1x960x128 .f32) : sProp 𝕄 :=
  owns (d : Thread nD τ) (O.yv.slice (Rect.unit (s := S2x960x128) ![h.val, 0, 0] S1x960x128.size (inbY h)) (fun _ => rfl)) fullShare X

/-- What the body only reads: the three staged operands and the three arrays of column scales. -/
def Reads : sProp 𝕄 :=
  iprop(owns (d : Thread nD τ) O.xg fullShare T.XG ∗ owns (d : Thread nD τ) O.xs fullShare T.XS ∗ owns (d : Thread nD τ) O.r fullShare T.R
    ∗ owns (d : Thread nD τ) O.bsg fullShare T.SG ∗ owns (d : Thread nD τ) O.bsu fullShare T.SU ∗ owns (d : Thread nD τ) O.bsd fullShare T.SD)

/-- The contents of a part just written over. -/
theorem all_of_store {s : Shape} {α : Type} {X' w : s.Idx → α} (h : ∀ i, X' i = w i) : X' = w := funext h

theorem wp_gateUp {e : Fin 36} {k : Fin 13} (h : Fin 2) (hk : k = sl e) {σ : Fin 36 → St} (hσ : σ e = .fly)
    {Q : PUnit → sProp 𝕄} :
    iprop(RingG EC d O.wg O.bg O.semG T.WG σ ∗ RingG EC d O.wu O.bu O.semU T.WU σ ∗ Reads d O T
        ∗ (∃ X, HqAt d O h X) ∗ (∃ X, HsAt d O h X) ∗ ∃ W, owes (d : Thread nD τ) 0 W)
      ⊢ iprop((iprop(RingG EC d O.wg O.bg O.semG T.WG (Function.update σ e .idle) ∗ RingG EC d O.wu O.bu O.semU T.WU (Function.update σ e .idle)
            ∗ SlotG d O.bg O.semG k (moveG T.WG e) ∗ SlotG d O.bu O.semU k (moveG T.WU e) ∗ Reads d O T
            ∗ HqAt d O h (hCodes (hid T e)) ∗ HsAt d O h (hScale (hid T e)) ∗ ∃ W, owes (d : Thread nD τ) 0 W) -∗ Q ⟨⟩)
        -∗ wp frame (wpE defs 𝒱 (d : Thread nD τ) bd) Set.univ (gateUp O e k h) Q) := by
  iintro ⟨HG, HU, HR, ⟨%X1, Hq⟩, ⟨%X2, Hs⟩, HW⟩ HK
  unfold gateUp waitG
  rw [wp_bind]
  iapply (ring_wait EC (d : Thread nD τ) (srcG O.wg) (dstG O.bg) (cell O.semG) (moveG T.WG) 𝒱 bd hk hσ) $$ [HG HW]
  · isplitl [HG]; · iexact HG
    iexact HW
  iintro ⟨HG, Sg, HW⟩
  rw [wp_bind]
  iapply (ring_wait EC (d : Thread nD τ) (srcG O.wu) (dstG O.bu) (cell O.semU) (moveG T.WU) 𝒱 bd hk hσ) $$ [HU HW]
  · isplitl [HU]; · iexact HU
    iexact HW
  iintro ⟨HU, Su, HW⟩
  unfold Reads
  icases HR with ⟨Hxg, Hxs, Hr, Hsg, Hsu, Hsd⟩
  rw [wp_bind]
  iapply (wp_ld 𝒱 (d : Thread nD τ) bd) $$ Hxg
  iintro Hxg
  unfold SlotG Slot dstG moveG
  rw [owns_squeeze (d : Thread nD τ) _ fullShare sqG (blkW T.WG e), owns_squeeze (d : Thread nD τ) _ fullShare sqG (blkW T.WU e)]
  icases Sg with ⟨Sg, Cg⟩
  icases Su with ⟨Su, Cu⟩
  rw [wp_bind]
  iapply (wp_ld_sub 𝒱 (d : Thread nD τ) bd (fun i => i) (fun i => rfl)) $$ Sg
  iintro Sg
  rw [wp_bind]
  iapply (wp_ld_sub 𝒱 (d : Thread nD τ) bd (fun i => i) (fun i => rfl)) $$ Su
  iintro Su
  rw [wp_bind]
  iapply (wp_ld 𝒱 (d : Thread nD τ) bd) $$ Hxs
  iintro Hxs
  rw [wp_bind]
  iapply (wp_ld 𝒱 (d : Thread nD τ) bd) $$ Hsg
  iintro Hsg
  rw [wp_bind]
  iapply (wp_ld 𝒱 (d : Thread nD τ) bd) $$ Hsu
  iintro Hsu
  unfold HqAt HsAt
  rw [wp_bind]
  iapply (wp_ld_sub 𝒱 (d : Thread nD τ) bd (fun i => i) (fun i => rfl)) $$ Hq
  iintro Hq
  rw [wp_bind]
  iapply (wp_st_sub 𝒱 (d : Thread nD τ) bd (fun i => i) (fun i => rfl)) $$ Hq
  iintro ⟨%Y1, %h1, Hq⟩
  rw [wp_bind]
  iapply (wp_ld_sub 𝒱 (d : Thread nD τ) bd (fun i => i) (fun i => rfl)) $$ Hs
  iintro Hs
  iapply (wp_st_sub 𝒱 (d : Thread nD τ) bd (fun i => i) (fun i => rfl)) $$ Hs
  iintro ⟨%Y2, %h2, Hs⟩
  have e1 : Y1 = hCodes (hid T e) := funext h1.1
  have e2 : Y2 = hScale (hid T e) := funext h2.1
  subst e1 e2
  iapply HK
  isplitl [HG]; · iexact HG
  isplitl [HU]; · iexact HU
  isplitl [Sg Cg]
  · isplitl [Sg]; · iexact Sg
    iexact Cg
  isplitl [Su Cu]
  · isplitl [Su]; · iexact Su
    iexact Cu
  isplitl [Hxg Hxs Hr Hsg Hsu Hsd]
  · isplitl [Hxg]; · iexact Hxg
    isplitl [Hxs]; · iexact Hxs
    isplitl [Hr]; · iexact Hr
    isplitl [Hsg]; · iexact Hsg
    isplitl [Hsu]; · iexact Hsu
    iexact Hsd
  isplitl [Hq]; · iexact Hq
  isplitl [Hs]; · iexact Hs
  iexact HW

end

end Ffn
-- ==== Proof.Down.lean ====
/-
  The second half of an expert: its third weight block awaited, the second product stored tile by tile into a
  half of the result's buffer, and a half handed out.
-/
module

public import proofs.«01_k».proof.Proof.Gate
public import Idealize.ShloMosaic.Lib.Pipeline.Value

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where a tile lies -/

/-- Row `r`, column `l` of a product. -/
def at2 (r : Fin 80) (l : Fin 512) : S80x512.Idx
  | ⟨0, _⟩ => r
  | ⟨1, _⟩ => l

theorem tile_row (i : Fin 10) (q : S1x8x128.Idx) : 8 * i.val + (q 1).val < 80 := by
  have : (q 1).val < 8 := (q 1).isLt
  have := i.isLt; omega
theorem tile_col (j : Fin 4) (q : S1x8x128.Idx) : 128 * j.val + (q 2).val < 512 := by
  have : (q 2).val < 128 := (q 2).isLt
  have := j.isLt; omega

/-- A tile is eight rows by 128 columns of the product. -/
theorem tileVal_apply (y : FVec F S80x512 .f32) (i : Fin 10) (j : Fin 4) (q : S1x8x128.Idx) :
    tileVal y i j q = y (at2 ⟨8 * i.val + (q 1).val, tile_row i q⟩ ⟨128 * j.val + (q 2).val, tile_col j q⟩) := by
  unfold tileVal
  rw [show (shapeCast S1x8x128 (extractStridedSlice S8x128 ![8 * i.val, 128 * j.val] y (slY i j) : FVec F S8x128 .f32) (by decide) : FVec F S1x8x128 .f32) q
      = (extractStridedSlice S8x128 ![8 * i.val, 128 * j.val] y (slY i j) : FVec F S8x128 .f32) (fun a => q a.succ)
    from shapeCast_addUnit_apply ![8, 128] _ _ q]
  refine extractStridedSlice_apply _ _ _ _ _ ?_
  intro a
  fin_cases a <;> rfl

theorem row_lt (p : S1x960x128.Idx) : (p 1).val < 960 := (p 1).isLt
theorem lane_lt (p : S1x960x128.Idx) : (p 2).val < 128 := (p 2).isLt

/-- The columns, the rows and the lanes a row of the result's buffer belongs to; its place in the order of the tiles. -/
def nOf (p : S1x960x128.Idx) : Fin 3 := ⟨(p 1).val % 12 / 4, by omega⟩
def rOf (p : S1x960x128.Idx) : Fin 80 := ⟨(p 1).val / 12, by have := row_lt p; omega⟩
def lOf (p : S1x960x128.Idx) : Fin 512 := ⟨128 * ((p 1).val % 4) + (p 2).val, by have := lane_lt p; omega⟩
def key (p : S1x960x128.Idx) : ℕ := 40 * ((p 1).val % 12 / 4) + 4 * ((p 1).val / 96) + (p 1).val % 4

theorem key_lt (p : S1x960x128.Idx) : key p < 120 := by have := row_lt p; unfold key; omega

/-- The five hundred and twelve columns `n` of an expert's result. -/
def downOf (T : Vals F) (e : Fin 36) (n : Fin 3) : FVec F S80x512 .f32 :=
  downVal (lane0 (hScale (hid T e))) (lane0 (blkR T.R e)) (hCodes (hid T e)) (blkDn T.WD e n) (blkSd T.SD e n)

/-- An expert's result, twelve rows of 128 lanes to a token. -/
def yBlk (T : Vals F) (e : Fin 36) : Vec F S1x960x128 .f32 := fun p => downOf T e (nOf p) (at2 (rOf p) (lOf p))

theorem inbTile (n : Fin 3) (i : Fin 10) (j : Fin 4) : ∀ a, S1x8x128.size a = 0 ∨
    (![0, 96 * i.val + 4 * n.val + j.val, 0] : Fin 3 → Nat) a
      + (![1, 12, 1] : Fin 3 → Nat) a * (S1x8x128.size a - 1) < S1x960x128.size a := by
  intro a
  right
  have := n.isLt; have := i.isLt; have := j.isLt
  fin_cases a
  · show 0 + 1 * (1 - 1) < 1; omega
  · show 96 * i.val + 4 * n.val + j.val + 12 * (8 - 1) < 960; omega
  · show 0 + 1 * (128 - 1) < 128; omega

/-- A tile's indices within its half. -/
def tileIdx (n : Fin 3) (i : Fin 10) (j : Fin 4) (q : S1x8x128.Idx) : S1x960x128.Idx :=
  (⟨![0, 96 * i.val + 4 * n.val + j.val, 0], S1x8x128.size, ![1, 12, 1], inbTile n i j⟩ : LoadRect S1x960x128).idx q

theorem tileIdx_row (n : Fin 3) (i : Fin 10) (j : Fin 4) (q : S1x8x128.Idx) :
    (tileIdx n i j q 1).val = 96 * i.val + 4 * n.val + j.val + 12 * (q 1).val := rfl
theorem tileIdx_lane (n : Fin 3) (i : Fin 10) (j : Fin 4) (q : S1x8x128.Idx) :
    (tileIdx n i j q 2).val = (q 2).val := by
  show 0 + 1 * (q 2).val = _
  omega

theorem tileIdx_half (h : Fin 2) (n : Fin 3) (i : Fin 10) (j : Fin 4) (q : S1x8x128.Idx) :
    (tileRect h n i j).toLoadRect.idx q = (Rect.unit (s := S2x960x128) ![h.val, 0, 0] S1x960x128.size (inbY h)).emb (tileIdx n i j q) := by
  funext a
  apply Fin.ext
  fin_cases a
  · show h.val + 1 * (q 0).val = h.val + 1 * (0 + 1 * (q 0).val); omega
  · show 96 * i.val + 4 * n.val + j.val + 12 * (q 1).val = 0 + 1 * (96 * i.val + 4 * n.val + j.val + 12 * (q 1).val); omega
  · show 0 + 1 * (q 2).val = 0 + 1 * (0 + 1 * (q 2).val); omega

/-- What a tile stores is its part of the result. -/
theorem tile_eq (T : Vals F) (e : Fin 36) (n : Fin 3) (i : Fin 10) (j : Fin 4) (q : S1x8x128.Idx) :
    tileVal (downOf T e n) i j q = yBlk T e (tileIdx n i j q) := by
  rw [tileVal_apply]
  have hq1 : (q 1).val < 8 := (q 1).isLt
  have hn : nOf (tileIdx n i j q) = n := by
    apply Fin.ext; show (tileIdx n i j q 1).val % 12 / 4 = n.val
    rw [tileIdx_row]; have := n.isLt; have := j.isLt; omega
  have hr : rOf (tileIdx n i j q) = ⟨8 * i.val + (q 1).val, tile_row i q⟩ := by
    apply Fin.ext; show (tileIdx n i j q 1).val / 12 = 8 * i.val + (q 1).val
    rw [tileIdx_row]; have := n.isLt; have := j.isLt; omega
  have hl : lOf (tileIdx n i j q) = ⟨128 * j.val + (q 2).val, tile_col j q⟩ := by
    apply Fin.ext; show 128 * ((tileIdx n i j q 1).val % 4) + (tileIdx n i j q 2).val = 128 * j.val + (q 2).val
    rw [tileIdx_row, tileIdx_lane]; have := j.isLt; omega
  unfold yBlk
  rw [hn, hr, hl]

/-- An index whose turn it is lies in the tile. -/
theorem tile_cover (n : Fin 3) (i : Fin 10) (j : Fin 4) (p : S1x960x128.Idx) (hp : key p = 40 * n.val + 4 * i.val + j.val) :
    ∃ q, tileIdx n i j q = p := by
  have hrow := row_lt p
  have hn := n.isLt; have hi := i.isLt; have hj := j.isLt
  unfold key at hp
  refine ⟨fun | ⟨0, _⟩ => (0 : Fin 1) | ⟨1, _⟩ => ⟨(p 1).val % 96 / 12, ?_⟩ | ⟨2, _⟩ => p 2, ?_⟩
  · show _ < 8; omega
  · funext a
    apply Fin.ext
    fin_cases a
    · show 0 + 1 * 0 = (p 0).val
      have : (p 0).val < 1 := (p 0).isLt
      omega
    · show 96 * i.val + 4 * n.val + j.val + 12 * ((p 1).val % 96 / 12) = (p 1).val
      omega
    · show 0 + 1 * (p 2).val = (p 2).val
      omega

/-! ## The steps -/

variable {nD : Nat} {τ : Topo} {sig : RefSig} {U : Type} [URA U] {Λ : Labels}

local notation "𝕄" => MT nD τ sig Unit (Elt F) ℕ U ℕ

section

variable (EC : UEmb Counters (MT nD τ sig Unit (Elt F) ℕ U ℕ)) [EC.LandsIn (upEmb : UEmb _ (MT nD τ sig Unit (Elt F) ℕ U ℕ))]
variable {defs : Defs nD τ sig (Elt F) Λ} (𝒱 : Variants) (d : Dev nD) (bd : Option 𝒱.V) (O : Operands sig) (T : Vals F)

/-- A half of the result's buffer, its first `m` tiles stored. -/
def Tiles (e : Fin 36) (h : Fin 2) (m : ℕ) : sProp 𝕄 := iprop(∃ Y, ⌜∀ p, key p < m → Y p = yBlk T e p⌝ ∗ YvAt d O h Y)

theorem wp_storeTile (e : Fin 36) (h : Fin 2) (n : Fin 3) (i : Fin 10) (j : Fin 4) {Q : PUnit → sProp 𝕄} :
    (Tiles d O T e h (40 * n.val + 4 * i.val + j.val) : sProp 𝕄)
      ⊢ iprop((Tiles d O T e h (40 * n.val + 4 * i.val + (j.val + 1)) -∗ Q ⟨⟩)
        -∗ wp frame (wpE defs 𝒱 (d : Thread nD τ) bd) Set.univ (storeTile O h n (downOf T e n) i j) Q) := by
  unfold Tiles YvAt
  iintro ⟨%Y, %hY, H⟩ HK
  unfold storeTile
  rw [wp_bind]
  iapply (wp_ld_sub 𝒱 (d : Thread nD τ) bd (tileIdx n i j) (tileIdx_half h n i j)) $$ H
  iintro H
  iapply (wp_st_sub 𝒱 (d : Thread nD τ) bd (tileIdx n i j) (tileIdx_half h n i j)) $$ H
  iintro ⟨%Y', %hY', H⟩
  iapply HK
  iexists Y'
  isplitr
  · ipureintro
    intro p hp
    by_cases hq : ∃ q, tileIdx n i j q = p
    · obtain ⟨q, rfl⟩ := hq
      rw [hY'.1 q, tile_eq]
    · have hlt : key p < 40 * n.val + 4 * i.val + j.val := by
        rcases Nat.lt_or_ge (key p) (40 * n.val + 4 * i.val + j.val) with h | h
        · exact h
        · exact absurd (tile_cover n i j p (by omega)) hq
      rw [hY'.2 p (fun q hq' => hq ⟨q, hq'⟩), hY p hlt]
  · iexact H

/-- The forty tiles of the columns `n`. -/
theorem wp_tiles (e : Fin 36) (h : Fin 2) (n : Fin 3) {Q : PUnit → sProp 𝕄} :
    (Tiles d O T e h (40 * n.val) : sProp 𝕄)
      ⊢ iprop((Tiles d O T e h (40 * (n.val + 1)) -∗ Q ⟨⟩)
        -∗ wp frame (wpE defs 𝒱 (d : Thread nD τ) bd) Set.univ (seqN 10 fun i => seqN 4 fun j => storeTile O h n (downOf T e n) i j) Q) := by
  have := wp_seqN (defs := defs) 𝒱 d bd 10 (fun i => seqN 4 fun j => storeTile O h n (downOf T e n) i j)
    (fun i => (Tiles d O T e h (40 * n.val + 4 * i) : sProp 𝕄)) (fun i Q =>
      wp_seqN (defs := defs) 𝒱 d bd 4 (fun j => storeTile O h n (downOf T e n) i j)
        (fun j => (Tiles d O T e h (40 * n.val + 4 * i.val + j) : sProp 𝕄)) (fun j Q => wp_storeTile 𝒱 d bd O T e h n i j) Q) Q
  exact this

/-- What the second product reads. -/
def Before (e : Fin 36) (k : Fin 13) (h : Fin 2) : sProp 𝕄 :=
  iprop(HqAt d O h (hCodes (hid T e))
    ∗ owns (d : Thread nD τ) (O.bd.slice (Rect.unit (s := S13x512x1536) ![k.val, 0, 0] S1x512x1536.size (inbD13 k)) (fun _ => rfl)) fullShare (blkD T.WD e)
    ∗ owns (d : Thread nD τ) O.bsd fullShare T.SD)

theorem downIdx (k : Fin 13) (n : Fin 3) (i : S1x512x512.Idx) :
    (Rect.unit (s := S13x512x1536) ![k.val, 0, 512 * n.val] S1x512x512.size (inbWd k n)).toLoadRect.idx i
      = (Rect.unit (s := S13x512x1536) ![k.val, 0, 0] S1x512x1536.size (inbD13 k)).emb
        ((Rect.unit (s := S1x512x1536) ![0, 0, 512 * n.val] S1x512x512.size (inbDn n)).emb i) := by
  funext a
  apply Fin.ext
  fin_cases a
  · show k.val + 1 * (i 0).val = k.val + 1 * (0 + 1 * (i 0).val); omega
  · show 0 + 1 * (i 1).val = 0 + 1 * (0 + 1 * (i 1).val); omega
  · show 512 * n.val + 1 * (i 2).val = 0 + 1 * (512 * n.val + 1 * (i 2).val); omega

theorem wp_downCols (e : Fin 36) (k : Fin 13) (h : Fin 2) (n : Fin 3) {Q : PUnit → sProp 𝕄} :
    iprop(Before d O T e k h ∗ Tiles d O T e h (40 * n.val))
      ⊢ iprop((iprop(Before d O T e k h ∗ Tiles d O T e h (40 * (n.val + 1))) -∗ Q ⟨⟩)
        -∗ wp frame (wpE defs 𝒱 (d : Thread nD τ) bd) Set.univ
          (downCols O e k h (lane0 (hScale (hid T e))) (lane0 (blkR T.R e)) n) Q) := by
  unfold Before HqAt
  iintro ⟨⟨Hq, Hd, Hsd⟩, HT⟩ HK
  unfold downCols
  rw [wp_bind]
  iapply (wp_ld_sub 𝒱 (d : Thread nD τ) bd (fun i => i) (fun i => rfl)) $$ Hq
  iintro Hq
  rw [wp_bind]
  iapply (wp_ld_sub 𝒱 (d : Thread nD τ) bd (rs := Rect.unit (s := S13x512x1536) ![k.val, 0, 0] S1x512x1536.size (inbD13 k))
    (fun i => (Rect.unit (s := S1x512x1536) ![0, 0, 512 * n.val] S1x512x512.size (inbDn n)).emb i) (downIdx k n)) $$ Hd
  iintro Hd
  rw [wp_bind]
  iapply (wp_ld 𝒱 (d : Thread nD τ) bd) $$ Hsd
  iintro Hsd
  iapply (wp_tiles (defs := defs) 𝒱 d bd O T e h n) $$ HT
  iintro HT
  iapply HK
  isplitl [Hq Hd Hsd]
  · isplitl [Hq]; · iexact Hq
    isplitl [Hd]; · iexact Hd
    iexact Hsd
  iexact HT

/-- The second product of expert `e`. -/
theorem wp_down {e : Fin 36} {k : Fin 13} (h : Fin 2) (hk : k = sl e) {σ : Fin 36 → St} (hσ : σ e = .fly) {Q : PUnit → sProp 𝕄} :
    iprop(RingD EC d O.wd O.bd O.semD T.WD σ ∗ Reads d O T
        ∗ HqAt d O h (hCodes (hid T e)) ∗ HsAt d O h (hScale (hid T e)) ∗ (∃ Y, YvAt d O h Y) ∗ ∃ W, owes (d : Thread nD τ) 0 W)
      ⊢ iprop((iprop(RingD EC d O.wd O.bd O.semD T.WD (Function.update σ e .idle) ∗ SlotD d O.bd O.semD k (moveD T.WD e) ∗ Reads d O T
            ∗ HqAt d O h (hCodes (hid T e)) ∗ HsAt d O h (hScale (hid T e)) ∗ YvAt d O h (yBlk T e)
            ∗ ∃ W, owes (d : Thread nD τ) 0 W) -∗ Q ⟨⟩)
        -∗ wp frame (wpE defs 𝒱 (d : Thread nD τ) bd) Set.univ (down O e k h) Q) := by
  iintro ⟨HD, HR, Hq, Hs, ⟨%Y, Hy⟩, HW⟩ HK
  unfold down waitD
  rw [wp_bind]
  iapply (ring_wait EC (d : Thread nD τ) (srcD O.wd) (dstD O.bd) (cell O.semD) (moveD T.WD) 𝒱 bd hk hσ) $$ [HD HW]
  · isplitl [HD]; · iexact HD
    iexact HW
  iintro ⟨HD, Sd, HW⟩
  unfold Reads
  icases HR with ⟨Hxg, Hxs, Hr, Hsg, Hsu, Hsd⟩
  unfold SlotD Slot dstD moveD
  rw [owns_squeeze (d : Thread nD τ) _ fullShare sqD (blkD T.WD e)]
  icases Sd with ⟨Sd, Cd⟩
  unfold HsAt
  rw [wp_bind]
  iapply (wp_ld_sub 𝒱 (d : Thread nD τ) bd (fun i => i) (fun i => rfl)) $$ Hs
  iintro Hs
  rw [wp_bind]
  iapply (wp_ld 𝒱 (d : Thread nD τ) bd) $$ Hr
  iintro Hr
  iapply (wp_seqN (defs := defs) 𝒱 d bd 3 (fun n => downCols O e k h (lane0 (hScale (hid T e))) (lane0 (blkR T.R e)) n)
    (fun n => iprop(Before d O T e k h ∗ Tiles d O T e h (40 * n)))
    (fun n Q => wp_downCols (defs := defs) 𝒱 d bd O T e k h n)) $$ [Hq Sd Hsd Hy]
  · unfold Before Tiles
    isplitl [Hq Sd Hsd]
    · isplitl [Hq]; · iexact Hq
      isplitl [Sd]; · iexact Sd
      iexact Hsd
    iexists Y
    isplitr; · ipureintro; intro p hp; exact absurd hp (Nat.not_lt_zero _)
    iexact Hy
  unfold Before Tiles
  iintro ⟨⟨Hq, Sd, Hsd⟩, ⟨%Y', %hY', Hy⟩⟩
  have hYe : Y' = yBlk T e := funext fun p => hY' p (by have := key_lt p; omega)
  subst hYe
  iapply HK
  isplitl [HD]; · iexact HD
  isplitl [Sd Cd]
  · isplitl [Sd]; · iexact Sd
    iexact Cd
  isplitl [Hxg Hxs Hr Hsg Hsu Hsd]
  · isplitl [Hxg]; · iexact Hxg
    isplitl [Hxs]; · iexact Hxs
    isplitl [Hr]; · iexact Hr
    isplitl [Hsg]; · iexact Hsg
    isplitl [Hsu]; · iexact Hsu
    iexact Hsd
  isplitl [Hq]; · iexact Hq
  isplitl [Hs]; · iexact Hs
  isplitl [Hy]; · iexact Hy
  iexact HW

/-- An expert's result within the whole result. -/
def inExp (p : S36x960x128.Idx) : S1x960x128.Idx
  | ⟨0, _⟩ => (0 : Fin 1)
  | ⟨1, _⟩ => p 1
  | ⟨2, _⟩ => p 2

/-- The whole result. -/
def yAll (T : Vals F) : S36x960x128.Idx → Elt F .f32 := fun p => outVal (yBlk T (p 0)) (inExp p)

/-- The result's array, the first `m` experts handed out. -/
def Done (m : ℕ) : sProp 𝕄 := iprop(∃ Y, ⌜∀ p, (p 0).val < m → Y p = yAll T p⌝ ∗ owns (d : Thread nD τ) O.y fullShare Y)

theorem wp_combine (e : Fin 36) (h : Fin 2) {Q : PUnit → sProp 𝕄} :
    iprop(Done d O T e.val ∗ YvAt d O h (yBlk T e))
      ⊢ iprop((iprop(Done d O T (e.val + 1) ∗ YvAt d O h (yBlk T e)) -∗ Q ⟨⟩)
        -∗ wp frame (wpE defs 𝒱 (d : Thread nD τ) bd) Set.univ (combine O e h) Q) := by
  unfold Done YvAt
  iintro ⟨⟨%Y, %hY, H⟩, Hy⟩ HK
  unfold combine
  rw [wp_bind]
  iapply (wp_ld_sub 𝒱 (d : Thread nD τ) bd (fun i => i) (fun i => rfl)) $$ Hy
  iintro Hy
  rw [wp_bind]
  iapply (wp_ld 𝒱 (d : Thread nD τ) bd) $$ H
  iintro H
  iapply (wp_st 𝒱 (d : Thread nD τ) bd) $$ H
  iintro ⟨%Y', %hY', H⟩
  iapply HK
  isplitl [H]
  · iexists Y'
    isplitr
    · ipureintro
      intro p hp
      by_cases hpe : (p 0).val = e.val
      · have hp0 : p 0 = e := Fin.ext hpe
        have hemb : (Rect.unit (s := S36x960x128) ![e.val, 0, 0] S1x960x128.size (inbO e)).emb (inExp p) = p := by
          funext a
          apply Fin.ext
          fin_cases a
          · show e.val + 1 * 0 = (p 0).val; omega
          · show 0 + 1 * (p 1).val = (p 1).val; omega
          · show 0 + 1 * (p 2).val = (p 2).val; omega
        have h1 := hY'.1 (inExp p)
        rw [hemb] at h1
        rw [h1]
        unfold yAll
        rw [hp0]
      · rw [hY'.2 p ?_, hY p (by omega)]
        intro i hi
        apply hpe
        rw [← hi]
        have : (i 0).val < 1 := (i 0).isLt
        show e.val + 1 * (i 0).val = e.val
        omega
    · iexact H
  iexact Hy

end

end Ffn
-- ==== Proof.Split.lean ====
/-
  Buffers cut along their leading axis, and the two ends of a ring: the slots and blocks it is made of, and
  what is left of it when every block has been used.
-/
module

public import proofs.«01_k».proof.Proof.Down

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Cutting along the leading axis -/

section Lead

variable {N a b : ℕ}

/-- Block `e` along the leading axis. -/
abbrev lead (inb : ∀ (e : Fin N) i, (![e.val, 0, 0] : Fin 3 → ℕ) i + (⟨3, ![1, a, b]⟩ : Shape).size i ≤ (⟨3, ![N, a, b]⟩ : Shape).size i) (e : Fin N) :
    Rect ⟨3, ![N, a, b]⟩ :=
  Rect.unit (s := ⟨3, ![N, a, b]⟩) ![e.val, 0, 0] (⟨3, ![1, a, b]⟩ : Shape).size (inb e)

variable (inb : ∀ (e : Fin N) i, (![e.val, 0, 0] : Fin 3 → ℕ) i + (⟨3, ![1, a, b]⟩ : Shape).size i ≤ (⟨3, ![N, a, b]⟩ : Shape).size i)

theorem lead_emb (e : Fin N) (j : (⟨3, ![1, a, b]⟩ : Shape).Idx) : ((lead inb e).emb j) 0 = e := by
  apply Fin.ext
  have : (j 0).val < 1 := (j 0).isLt
  show e.val + 1 * (j 0).val = e.val
  omega

/-- An index within its block. -/
def within (x : (⟨3, ![N, a, b]⟩ : Shape).Idx) : (⟨3, ![1, a, b]⟩ : Shape).Idx
  | ⟨0, _⟩ => (0 : Fin 1)
  | ⟨1, _⟩ => x 1
  | ⟨2, _⟩ => x 2

theorem lead_within (x : (⟨3, ![N, a, b]⟩ : Shape).Idx) : (lead inb (x 0)).emb (within x) = x := by
  funext i
  apply Fin.ext
  fin_cases i
  · show (x 0).val + 1 * 0 = (x 0).val; omega
  · show 0 + 1 * (x 1).val = (x 1).val; omega
  · show 0 + 1 * (x 2).val = (x 2).val; omega

theorem within_lead (e : Fin N) (j : (⟨3, ![1, a, b]⟩ : Shape).Idx) : within ((lead inb e).emb j) = j := by
  have h := lead_within inb ((lead inb e).emb j)
  rw [lead_emb] at h
  exact (lead inb e).emb.injective h

theorem lead_disjoint (e e' : Fin N) (h : e ≠ e') : Disjoint (lead inb e).set (lead inb e').set := by
  rw [Finset.disjoint_left]
  intro x hx hx'
  rw [← Rect.map_emb_univ, Finset.mem_map] at hx hx'
  obtain ⟨j, -, rfl⟩ := hx
  obtain ⟨j', -, hj'⟩ := hx'
  have := lead_emb inb e j
  rw [← hj', lead_emb inb e' j'] at this
  exact h this.symm

theorem lead_cover : (Finset.univ : Finset (Fin N)).biUnion (fun e => (lead inb e).set) = Finset.univ := by
  ext x
  simp only [Finset.mem_univ, iff_true]
  refine Finset.mem_biUnion.mpr ⟨x 0, Finset.mem_univ _, ?_⟩
  rw [← Rect.map_emb_univ]
  exact Finset.mem_map.mpr ⟨within x, Finset.mem_univ _, lead_within inb x⟩

variable {nD : Nat} {τ : Topo} {sig : RefSig} {Val : EltTy → Type} {U : Type} [URA U]

local notation "𝕄" => MT nD τ sig Unit Val ℕ U ℕ

variable (c : Thread nD τ) {sp : Space} {e : EltTy} (m : Memref sig c.2.kind sp ⟨3, ![N, a, b]⟩ e) (q : PosShare TreeShare)

theorem split_lead (X : (⟨3, ![N, a, b]⟩ : Shape).Idx → Val e) :
    (owns c m q X : sProp 𝕄)
      ⊢ bigSep Finset.univ fun t : Fin N => owns c (m.slice (lead inb t) (fun _ => rfl)) q (fun j => X ((lead inb t).emb j)) :=
  owns_rects c m q (lead inb) (fun _ _ => rfl) (lead_disjoint inb) (lead_cover inb) X

theorem join_lead [∀ e, Nonempty (Val e)] (X : (⟨3, ![N, a, b]⟩ : Shape).Idx → Val e) :
    (bigSep Finset.univ fun t : Fin N => owns c (m.slice (lead inb t) (fun _ => rfl)) q (fun j => X ((lead inb t).emb j)))
      ⊢ (owns c m q X : sProp 𝕄) :=
  owns_of_rects c m q (lead inb) (fun _ _ => rfl) (lead_disjoint inb) (lead_cover inb) X

theorem join_lead_any [∀ e, Nonempty (Val e)] :
    (bigSep Finset.univ fun t : Fin N => iprop(∃ Y : (⟨3, ![1, a, b]⟩ : Shape).Idx → Val e, owns c (m.slice (lead inb t) (fun _ => rfl)) q Y))
      ⊢ (iprop(∃ X, owns c m q X) : sProp 𝕄) := by
  haveI : Nonempty ((⟨3, ![1, a, b]⟩ : Shape).Idx → Val e) := ⟨fun _ => Classical.arbitrary _⟩
  refine (bigSep_exists_pi Finset.univ (fun (t : Fin N) (Y : (⟨3, ![1, a, b]⟩ : Shape).Idx → Val e) =>
    (owns c (m.slice (lead inb t) (fun _ => rfl)) q Y : sProp 𝕄))).trans ?_
  iintro ⟨%f, H⟩
  let X : (⟨3, ![N, a, b]⟩ : Shape).Idx → Val e := fun x => f (x 0) (within x)
  iexists X
  iapply (join_lead inb c m q X)
  have h : (fun t : Fin N => (owns c (m.slice (lead inb t) (fun _ => rfl)) q (f t) : sProp 𝕄))
      = fun t : Fin N => owns c (m.slice (lead inb t) (fun _ => rfl)) q (fun j => X ((lead inb t).emb j)) := by
    funext t
    congr 1
    funext j
    show f t j = f ((lead inb t).emb j 0) (within ((lead inb t).emb j))
    rw [lead_emb, within_lead]
  rw [← h]
  iexact H

end Lead

/-! ## The ends of a ring -/

section Ends

theorem bigSep_each {M : Type} [URA M] {I : Type} {s : Finset I} {Φ Ψ : I → sProp M} (h : ∀ i, Φ i ⊢ Ψ i) : bigSep s Φ ⊢ bigSep s Ψ :=
  bigSep_mono fun i _ => h i

theorem bigSep_sep_split {M : Type} [URA M] {I : Type} (s : Finset I) (Φ Ψ : I → sProp M) :
    bigSep s (fun i => iprop(Φ i ∗ Ψ i)) ⊢ (iprop(bigSep s Φ ∗ bigSep s Ψ) : sProp M) := by
  rw [show (iprop(bigSep s Φ ∗ bigSep s Ψ) : sProp M) = bigSep s (fun i => iprop(Φ i ∗ Ψ i)) from (bigSep_sep s Φ Ψ).symm]

theorem bigSep_sep_join {M : Type} [URA M] {I : Type} (s : Finset I) (Φ Ψ : I → sProp M) :
    (iprop(bigSep s Φ ∗ bigSep s Ψ) : sProp M) ⊢ bigSep s (fun i => iprop(Φ i ∗ Ψ i)) := by
  rw [show (iprop(bigSep s Φ ∗ bigSep s Ψ) : sProp M) = bigSep s (fun i => iprop(Φ i ∗ Ψ i)) from (bigSep_sep s Φ Ψ).symm]

variable {nD : Nat} {τ : Topo} {sig : RefSig} {Val : EltTy → Type} {U : Type} [URA U]

local notation "𝕄" => MT nD τ sig Unit Val ℕ U ℕ

variable (EC : UEmb Counters (MT nD τ sig Unit Val ℕ U ℕ)) (c : Thread nD τ)
variable {sp sp' : Space} {sh : Shape} {e : EltTy} (src : Fin 36 → Memref sig c.2.kind sp sh e) (dst : Fin 13 → Memref sig c.2.kind sp' sh e)
  (cl : Fin 13 → DmaSem sig) (V : Fin 36 → sh.Idx → Val e)

theorem ring_first : (bigSep Finset.univ fun i : Fin 36 => owns c (src i) fullShare (V i)) ⊢ (Ring EC c src dst cl V (stInit 0) : sProp 𝕄) := by
  have h : ∀ i : Fin 36, (RingAt EC c src dst cl V (stInit 0 i) i : sProp 𝕄) = owns c (src i) fullShare (V i) := by
    intro i; rfl
  unfold Ring
  rw [bigSep_congr (fun i _ => h i)]

theorem free_first : (iprop((bigSep Finset.univ fun k : Fin 13 => iprop(∃ Y, owns c (dst k) fullShare Y))
      ∗ bigSep Finset.univ fun k : Fin 13 => semVal (c, .dma (cl k)) 0) : sProp 𝕄) ⊢ Free c dst cl 0 := by
  refine (bigSep_sep_join _ _ _).trans ?_
  unfold Free
  refine bigSep_each fun k => ?_
  rw [if_neg (Nat.not_lt_zero _)]
  unfold Slot
  iintro ⟨⟨%Y, H⟩, Hs⟩
  iexists Y
  isplitl [H]; · iexact H
  iexact Hs

theorem keep_slots : (Finset.univ.filter fun i : Fin 36 => 23 ≤ i.val).image sl = Finset.univ := by decide +kernel
theorem keep_inj : Set.InjOn sl (Finset.univ.filter fun i : Fin 36 => 23 ≤ i.val : Finset (Fin 36)) := by
  intro x hx y hy h
  have hx' : 23 ≤ x.val := (Finset.mem_filter.mp hx).2
  have hy' : 23 ≤ y.val := (Finset.mem_filter.mp hy).2
  have : x.val % 13 = y.val % 13 := congrArg Fin.val h
  apply Fin.ext
  have := x.isLt; have := y.isLt
  omega

/-- Every block used: the sources, the slots at some contents, and the semaphores at zero. -/
theorem ring_last : (Ring EC c src dst cl V (stAt 36) : sProp 𝕄)
    ⊢ iprop((bigSep Finset.univ fun i : Fin 36 => owns c (src i) fullShare (V i))
      ∗ (bigSep Finset.univ fun k : Fin 13 => iprop(∃ Y, owns c (dst k) fullShare Y))
      ∗ bigSep Finset.univ fun k : Fin 13 => semVal (c, .dma (cl k)) 0) := by
  have h : (Ring EC c src dst cl V (stAt 36) : sProp 𝕄) ⊢ bigSep Finset.univ fun i : Fin 36 =>
      iprop(owns c (src i) fullShare (V i) ∗ if 23 ≤ i.val then iprop(∃ Y, Slot c dst cl (sl i) Y) else emp) := by
    unfold Ring
    refine bigSep_each fun i => ?_
    by_cases hi : 23 ≤ i.val
    · rw [if_pos hi, show stAt 36 i = .keep by simp [stAt, hi]]
      unfold RingAt
      iintro H
      iexact H
    · rw [if_neg hi, show stAt 36 i = .idle by simp [stAt, hi]]
      rw [show (RingAt EC c src dst cl V .idle i : sProp 𝕄) = owns c (src i) fullShare (V i) from rfl]
      iintro H
      isplitl [H]; · iexact H
      iempintro
  have h2 : (bigSep Finset.univ fun i : Fin 36 => if 23 ≤ i.val then (iprop(∃ Y, Slot c dst cl (sl i) Y) : sProp 𝕄) else iprop(emp))
      = bigSep Finset.univ fun k : Fin 13 => iprop(∃ Y, Slot c dst cl k Y) := by
    refine ((bigSep_filter Finset.univ (fun i : Fin 36 => 23 ≤ i.val) (fun i => (iprop(∃ Y, Slot c dst cl (sl i) Y) : sProp 𝕄))).symm).trans ?_
    rw [← bigSep_image_of_injOn keep_inj (fun k => (iprop(∃ Y, Slot c dst cl k Y) : sProp 𝕄)), keep_slots]
  have h3 : (bigSep Finset.univ fun k : Fin 13 => (iprop(∃ Y, Slot c dst cl k Y) : sProp 𝕄))
      ⊢ iprop((bigSep Finset.univ fun k : Fin 13 => iprop(∃ Y, owns c (dst k) fullShare Y))
        ∗ bigSep Finset.univ fun k : Fin 13 => semVal (c, .dma (cl k)) 0) := by
    refine BIBase.Entails.trans (bigSep_each (Ψ := fun k => iprop((∃ Y, owns c (dst k) fullShare Y) ∗ semVal (c, .dma (cl k)) 0)) fun k => ?_)
      (bigSep_sep_split _ _ _)
    unfold Slot
    iintro ⟨%Y, H, Hs⟩
    isplitl [H]; · iexists Y; iexact H
    iexact Hs
  refine h.trans ((bigSep_sep_split _ _ _).trans ?_)
  rw [h2]
  iintro ⟨Ha, Hb⟩
  isplitl [Ha]; · iexact Ha
  iapply h3
  iexact Hb

end Ends

end Ffn
-- ==== Proof.Turn.lean ====
/-
  The loop: one half of an iteration, the pair of halves, and all seventeen iterations.
-/
module

public import proofs.«01_k».proof.Proof.Split

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {U : Type} [URA U] {Λ : Labels}

local notation "𝕄" => MT nD τ sig Unit (Elt F) ℕ U ℕ

/-- Every copy of the body is counted. -/
structure Counted (O : Operands sig) : Prop where
  g : ∀ k, 0 < (dstG O.bg k).view.dmaCredit
  u : ∀ k, 0 < (dstG O.bu k).view.dmaCredit
  d : ∀ k, 0 < (dstD O.bd k).view.dmaCredit
  sg : 0 < O.bsg.view.dmaCredit
  su : 0 < O.bsu.view.dmaCredit
  sd : 0 < O.bsd.view.dmaCredit

theorem counted (O : Operands sig) : Counted O where
  g _ := View.dmaCredit_pos _ (by decide)
  u _ := View.dmaCredit_pos _ (by decide)
  d _ := View.dmaCredit_pos _ (by decide)
  sg := View.dmaCredit_pos _ (by decide)
  su := View.dmaCredit_pos _ (by decide)
  sd := View.dmaCredit_pos _ (by decide)

variable (EC : UEmb Counters (MT nD τ sig Unit (Elt F) ℕ U ℕ)) [EC.LandsIn (upEmb : UEmb _ (MT nD τ sig Unit (Elt F) ℕ U ℕ))]
variable {defs : Defs nD τ sig (Elt F) Λ} (𝒱 : Variants) (d : Dev nD) (bd : Option 𝒱.V) (O : Operands sig) (T : Vals F)

/-- Starting the copies of one more expert. -/
theorem wp_startGU (hC : Counted O) {e : Fin 36} {k : Fin 13} (hk : k = sl e) {σ : Fin 36 → St} (hσ : σ e = .idle)
    {Y Y' : S1536x512.Idx → Elt F .fp8e4m3} {Q : PUnit → sProp 𝕄} :
    iprop(RingG EC d O.wg O.bg O.semG T.WG σ ∗ RingG EC d O.wu O.bu O.semU T.WU σ ∗ SlotG d O.bg O.semG k Y ∗ SlotG d O.bu O.semU k Y')
      ⊢ iprop((iprop(RingG EC d O.wg O.bg O.semG T.WG (Function.update σ e .fly) ∗ RingG EC d O.wu O.bu O.semU T.WU (Function.update σ e .fly)) -∗ Q ⟨⟩)
        -∗ wp frame (wpE defs 𝒱 (d : Thread nD τ) bd) Set.univ (startGU O e k) Q) := by
  iintro ⟨HG, HU, Sg, Su⟩ HK
  unfold startGU startG
  rw [wp_bind]
  iapply (ring_start EC (d : Thread nD τ) (srcG O.wg) (dstG O.bg) (cell O.semG) (moveG T.WG) 𝒱 bd hk hσ (hC.g k)) $$ [HG Sg]
  · isplitl [HG]; · iexact HG
    iexact Sg
  iintro HG
  rw [wp_bind]
  iapply (ring_start EC (d : Thread nD τ) (srcG O.wu) (dstG O.bu) (cell O.semU) (moveG T.WU) 𝒱 bd hk hσ (hC.u k)) $$ [HU Su]
  · isplitl [HU]; · iexact HU
    iexact Su
  iintro HU
  iapply le_wp_ret
  iapply HK
  isplitl [HG]; · iexact HG
  iexact HU

theorem wp_startDn (hC : Counted O) {e : Fin 36} {k : Fin 13} (hk : k = sl e) {σ : Fin 36 → St} (hσ : σ e = .idle)
    {Y : S512x1536.Idx → Elt F .fp8e4m3} {Q : PUnit → sProp 𝕄} :
    iprop(RingD EC d O.wd O.bd O.semD T.WD σ ∗ SlotD d O.bd O.semD k Y)
      ⊢ iprop((RingD EC d O.wd O.bd O.semD T.WD (Function.update σ e .fly) -∗ Q ⟨⟩)
        -∗ wp frame (wpE defs 𝒱 (d : Thread nD τ) bd) Set.univ (startDn O e k) Q) := by
  iintro ⟨HD, Sd⟩ HK
  unfold startDn startD
  rw [wp_bind]
  iapply (ring_start EC (d : Thread nD τ) (srcD O.wd) (dstD O.bd) (cell O.semD) (moveD T.WD) 𝒱 bd hk hσ (hC.d k)) $$ [HD Sd]
  · isplitl [HD]; · iexact HD
    iexact Sd
  iintro HD
  iapply le_wp_ret
  iapply HK
  iexact HD

/-- The two conditional starts of a half. -/
def moreGU (t : Fin loop.trips) (h : Fin 2) : Prog (TpuEff nD τ sig (Elt F) Λ .tc) PUnit :=
  if c : more (wE t (hw h)) = 1#1 then startGU O (nE t h c) (sE t h) else pure ⟨⟩
def moreDn (t : Fin loop.trips) (h : Fin 2) : Prog (TpuEff nD τ sig (Elt F) Λ .tc) PUnit :=
  if c : more (wP t (hw h)) = 1#1 then startDn O (nP t h c) (sP t h) else pure ⟨⟩

theorem half_eq (t : Fin loop.trips) (h h' : Fin 2) :
    (half O t h h' : Prog (TpuEff nD τ sig (Elt F) Λ .tc) PUnit)
      = (gateUp O (eE t h) (sE t h) h >>= fun _ => combine O (ePP t h) h >>= fun _ => down O (eP t h) (sP t h) h' >>= fun _ =>
          moreGU O t h >>= fun _ => moreDn O t h) := by
  unfold half moreGU
  by_cases c : more (wE t (hw h)) = 1#1
  · simp only [dif_pos c]; rfl
  · simp only [dif_neg c, pure_bind]; rfl

/-- After an expert's first two blocks are used: their slots go to the expert thirteen further on, if there is one. -/
theorem wp_moreGU (hC : Counted O) (t : Fin loop.trips) (h : Fin 2) {Y Y' : S1536x512.Idx → Elt F .fp8e4m3} {Q : PUnit → sProp 𝕄} :
    iprop(RingG EC d O.wg O.bg O.semG T.WG (Function.update (stAt (eE t h).val) (eE t h) .idle)
        ∗ RingG EC d O.wu O.bu O.semU T.WU (Function.update (stAt (eE t h).val) (eE t h) .idle)
        ∗ SlotG d O.bg O.semG (sE t h) Y ∗ SlotG d O.bu O.semU (sE t h) Y')
      ⊢ iprop((iprop(RingG EC d O.wg O.bg O.semG T.WG (stAt ((eE t h).val + 1)) ∗ RingG EC d O.wu O.bu O.semU T.WU (stAt ((eE t h).val + 1))) -∗ Q ⟨⟩)
        -∗ wp frame (wpE defs 𝒱 (d : Thread nD τ) bd) Set.univ
          (moreGU O t h) Q) := by
  unfold moreGU
  have hv : (eE t h).val = 2 * (t.val + 1) + h.val := wE_toNat t h
  have hs : (sE t h).val = (2 * (t.val + 1) + h.val) % 13 := wE_slot t h
  have hsl : sE t h = sl (eE t h) := Fin.ext (by rw [hs]; show _ = (eE t h).val % 13; rw [hv])
  by_cases c : more (wE t (hw h)) = 1#1
  · rw [dif_pos c]
    have hn : (nE t h c).val = (eE t h).val + 13 := by rw [hv]; exact wE_next t h
    have hm := stAt_more (eE t h) (nE t h c) hn
    have hsn : sE t h = sl (nE t h c) := by
      rw [hsl]; apply Fin.ext; show (eE t h).val % 13 = (nE t h c).val % 13; omega
    rw [← hm.2]
    exact wp_startGU EC 𝒱 d bd O T hC hsn hm.1
  · rw [dif_neg c]
    have hl : 23 ≤ (eE t h).val := by
      have := mt (wE_more t h).2 c
      omega
    rw [← stAt_last (eE t h) hl]
    iintro ⟨HG, HU, Sg, Su⟩ HK
    iapply le_wp_ret
    iapply HK
    isplitl [HG Sg]
    · iapply (ring_keep EC (d : Thread nD τ) (srcG O.wg) (dstG O.bg) (cell O.semG) (moveG T.WG) hsl (Function.update_self _ _ _)) $$ [HG Sg]
      isplitl [HG]; · iexact HG
      iexact Sg
    · iapply (ring_keep EC (d : Thread nD τ) (srcG O.wu) (dstG O.bu) (cell O.semU) (moveG T.WU) hsl (Function.update_self _ _ _)) $$ [HU Su]
      isplitl [HU]; · iexact HU
      iexact Su

theorem wp_moreDn (hC : Counted O) (t : Fin loop.trips) (h : Fin 2) {Y : S512x1536.Idx → Elt F .fp8e4m3} {Q : PUnit → sProp 𝕄} :
    iprop(RingD EC d O.wd O.bd O.semD T.WD (Function.update (stAt (eP t h).val) (eP t h) .idle) ∗ SlotD d O.bd O.semD (sP t h) Y)
      ⊢ iprop((RingD EC d O.wd O.bd O.semD T.WD (stAt ((eP t h).val + 1)) -∗ Q ⟨⟩)
        -∗ wp frame (wpE defs 𝒱 (d : Thread nD τ) bd) Set.univ
          (moreDn O t h) Q) := by
  unfold moreDn
  have hv : (eP t h).val = 2 * (t.val + 1) + h.val - 1 := wP_toNat t h
  have hs : (sP t h).val = (2 * (t.val + 1) + h.val - 1) % 13 := wP_slot t h
  have hsl : sP t h = sl (eP t h) := Fin.ext (by rw [hs]; show _ = (eP t h).val % 13; rw [hv])
  by_cases c : more (wP t (hw h)) = 1#1
  · rw [dif_pos c]
    have hn : (nP t h c).val = (eP t h).val + 13 := by rw [hv]; exact wP_next t h
    have hm := stAt_more (eP t h) (nP t h c) hn
    have hsn : sP t h = sl (nP t h c) := by
      rw [hsl]; apply Fin.ext; show (eP t h).val % 13 = (nP t h c).val % 13; omega
    rw [← hm.2]
    exact wp_startDn EC 𝒱 d bd O T hC hsn hm.1
  · rw [dif_neg c]
    have hl : 23 ≤ (eP t h).val := by
      have := mt (wP_more t h).2 c
      omega
    rw [← stAt_last (eP t h) hl]
    iintro ⟨HD, Sd⟩ HK
    iapply le_wp_ret
    iapply HK
    iapply (ring_keep EC (d : Thread nD τ) (srcD O.wd) (dstD O.bd) (cell O.semD) (moveD T.WD) hsl (Function.update_self _ _ _)) $$ [HD Sd]
    isplitl [HD]; · iexact HD
    iexact Sd

/-- Between two turns: `n` experts have gone through the first half, the last of them `e1`, in half `h'`; the second half
    of `e2` lies in half `h` and is to be handed out. -/
def Mid (n : ℕ) (e1 e2 : Fin 36) (h h' : Fin 2) : sProp 𝕄 :=
  iprop(RingG EC d O.wg O.bg O.semG T.WG (stAt n) ∗ RingG EC d O.wu O.bu O.semU T.WU (stAt n) ∗ RingD EC d O.wd O.bd O.semD T.WD (stAt e1.val)
    ∗ Reads d O T ∗ (∃ X, HqAt d O h X) ∗ (∃ X, HsAt d O h X) ∗ HqAt d O h' (hCodes (hid T e1)) ∗ HsAt d O h' (hScale (hid T e1))
    ∗ YvAt d O h (yBlk T e2) ∗ (∃ Y, YvAt d O h' Y) ∗ Done d O T e2.val ∗ ∃ W, owes (d : Thread nD τ) 0 W)

theorem wp_half (hC : Counted O) (t : Fin loop.trips) (h h' : Fin 2) {Q : PUnit → sProp 𝕄} :
    (Mid EC d O T (eE t h).val (eP t h) (ePP t h) h h' : sProp 𝕄)
      ⊢ iprop((Mid EC d O T ((eE t h).val + 1) (eE t h) (eP t h) h' h -∗ Q ⟨⟩)
        -∗ wp frame (wpE defs 𝒱 (d : Thread nD τ) bd) Set.univ (half O t h h') Q) := by
  have hv : (eE t h).val = 2 * (t.val + 1) + h.val := wE_toNat t h
  have hs : (sE t h).val = (2 * (t.val + 1) + h.val) % 13 := wE_slot t h
  have hsl : sE t h = sl (eE t h) := Fin.ext (by rw [hs]; show _ = (eE t h).val % 13; rw [hv])
  have hv1 : (eP t h).val = 2 * (t.val + 1) + h.val - 1 := wP_toNat t h
  have hs1 : (sP t h).val = (2 * (t.val + 1) + h.val - 1) % 13 := wP_slot t h
  have hsl1 : sP t h = sl (eP t h) := Fin.ext (by rw [hs1]; show _ = (eP t h).val % 13; rw [hv1])
  have hv2 : (ePP t h).val = 2 * (t.val + 1) + h.val - 2 := wPP_toNat t h
  unfold Mid
  iintro ⟨HG, HU, HD, HR, Hq, Hs, Hq1, Hs1, Hy, Hy1, Hdone, HW⟩ HK
  rw [half_eq]
  rw [wp_bind]
  iapply (wp_gateUp EC 𝒱 d bd O T h hsl (stAt_fly (eE t h))) $$ [HG HU HR Hq Hs HW]
  · isplitl [HG]; · iexact HG
    isplitl [HU]; · iexact HU
    isplitl [HR]; · iexact HR
    isplitl [Hq]; · iexact Hq
    isplitl [Hs]; · iexact Hs
    iexact HW
  iintro ⟨HG, HU, Sg, Su, HR, Hq, Hs, HW⟩
  rw [wp_bind]
  iapply (wp_combine 𝒱 d bd O T (ePP t h) h) $$ [Hdone Hy]
  · isplitl [Hdone]; · iexact Hdone
    iexact Hy
  iintro ⟨Hdone, Hy⟩
  rw [wp_bind]
  iapply (wp_down EC 𝒱 d bd O T h' hsl1 (stAt_fly (eP t h))) $$ [HD HR Hq1 Hs1 Hy1 HW]
  · isplitl [HD]; · iexact HD
    isplitl [HR]; · iexact HR
    isplitl [Hq1]; · iexact Hq1
    isplitl [Hs1]; · iexact Hs1
    isplitl [Hy1]; · iexact Hy1
    iexact HW
  iintro ⟨HD, Sd, HR, Hq1, Hs1, Hy1, HW⟩
  rw [wp_bind]
  iapply (wp_moreGU EC 𝒱 d bd O T hC t h) $$ [HG HU Sg Su]
  · isplitl [HG]; · iexact HG
    isplitl [HU]; · iexact HU
    isplitl [Sg]; · iexact Sg
    iexact Su
  iintro ⟨HG, HU⟩
  iapply (wp_moreDn EC 𝒱 d bd O T hC t h) $$ [HD Sd]
  · isplitl [HD]; · iexact HD
    iexact Sd
  iintro HD
  rw [show (eP t h).val + 1 = (eE t h).val by omega, show (ePP t h).val + 1 = (eP t h).val by omega]
  iapply HK
  isplitl [HG]; · iexact HG
  isplitl [HU]; · iexact HU
  isplitl [HD]; · iexact HD
  isplitl [HR]; · iexact HR
  isplitl [Hq1]; · iexists _; iexact Hq1
  isplitl [Hs1]; · iexists _; iexact Hs1
  isplitl [Hq]; · iexact Hq
  isplitl [Hs]; · iexact Hs
  isplitl [Hy1]; · iexact Hy1
  isplitl [Hy]; · iexists _; iexact Hy
  isplitl [Hdone]; · iexact Hdone
  iexact HW

/-- The state after `n` iterations. -/
def Loop (n : ℕ) : sProp 𝕄 :=
  iprop(∃ e1 e2 : Fin 36, ⌜e1.val = 2 * n + 1 ∧ e2.val = 2 * n⌝ ∗ Mid EC d O T (2 * n + 2) e1 e2 ⟨0, by decide⟩ ⟨1, by decide⟩)

theorem wp_step (hC : Counted O) (t : Fin loop.trips) :
    (Loop EC d O T t.val : sProp 𝕄)
      ⊢ wp frame (wpE defs 𝒱 (d : Thread nD τ) bd) Set.univ (step O t) (fun _ => Loop EC d O T (t.val + 1)) := by
  have v0 : (eE t ⟨0, by decide⟩).val = 2 * (t.val + 1) := wE_toNat t ⟨0, by decide⟩
  have v1 : (eE t ⟨1, by decide⟩).val = 2 * (t.val + 1) + 1 := wE_toNat t ⟨1, by decide⟩
  have p0 : (eP t ⟨0, by decide⟩).val = 2 * (t.val + 1) + 0 - 1 := wP_toNat t ⟨0, by decide⟩
  have p1 : (eP t ⟨1, by decide⟩).val = 2 * (t.val + 1) + 1 - 1 := wP_toNat t ⟨1, by decide⟩
  have q0 : (ePP t ⟨0, by decide⟩).val = 2 * (t.val + 1) + 0 - 2 := wPP_toNat t ⟨0, by decide⟩
  have q1 : (ePP t ⟨1, by decide⟩).val = 2 * (t.val + 1) + 1 - 2 := wPP_toNat t ⟨1, by decide⟩
  have a1 : eP t ⟨1, by decide⟩ = eE t ⟨0, by decide⟩ := Fin.ext (by omega)
  have a2 : ePP t ⟨1, by decide⟩ = eP t ⟨0, by decide⟩ := Fin.ext (by omega)
  have b1 := wp_half (defs := defs) EC 𝒱 d bd O T hC t ⟨0, by decide⟩ ⟨1, by decide⟩ (Q := fun _ =>
    wp frame (wpE defs 𝒱 (d : Thread nD τ) bd) Set.univ (half O t ⟨1, by decide⟩ ⟨0, by decide⟩) (fun _ => Loop EC d O T (t.val + 1)))
  have b2 := wp_half (defs := defs) EC 𝒱 d bd O T hC t ⟨1, by decide⟩ ⟨0, by decide⟩ (Q := fun _ => Loop EC d O T (t.val + 1))
  rw [a1, a2, v1] at b2
  rw [v0] at b1
  unfold step
  rw [wp_bind]
  unfold Loop at b1 b2 ⊢
  iintro ⟨%e1, %e2, %he, HM⟩
  have h1 : e1 = eP t ⟨0, by decide⟩ := Fin.ext (by omega)
  have h2 : e2 = ePP t ⟨0, by decide⟩ := Fin.ext (by omega)
  subst h1 h2
  rw [show 2 * t.val + 2 = 2 * (t.val + 1) by omega]
  iapply b1 $$ HM
  iintro HM
  iapply b2 $$ HM
  iintro HM
  iexists eE t ⟨1, by decide⟩, eE t ⟨0, by decide⟩
  isplitr; · ipureintro; exact ⟨v1, v0⟩
  iexact HM

/-- A counted loop that carries nothing, by an invariant. -/
theorem wp_count (l : Scf.Loop 32) (hok : l.OK) (f : Fin l.trips → Prog (TpuEff nD τ sig (Elt F) Λ .tc) PUnit) (I : ℕ → sProp 𝕄)
    (h : ∀ t : Fin l.trips, I t.val ⊢ wp frame (wpE defs 𝒱 (d : Thread nD τ) bd) Set.univ (f t) (fun _ => I (t.val + 1))) {Q : PUnit → sProp 𝕄} :
    I 0 ⊢ iprop((I l.trips -∗ Q ⟨⟩)
      -∗ wp frame (wpE defs 𝒱 (d : Thread nD τ) bd) Set.univ (Scf.Loop.for l hok ⟨⟩ fun t _ => f t) Q) := by
  have h := Scf.wp_for frame (wpE defs 𝒱 (d : Thread nD τ) bd) Set.univ l.lb l.ub l.st hok (⟨⟩ : PUnit) (fun t _ => f t)
    (fun n _ => I n) (fun t _ => h t) (Q := Q)
  iintro HI HK
  iapply h
  isplitl [HI]; · iexact HI
  iintro %acc HI
  iapply HK
  iexact HI

/-- The whole loop. -/
theorem wp_loop (hC : Counted O) {Q : PUnit → sProp 𝕄} :
    (Loop EC d O T 0 : sProp 𝕄)
      ⊢ iprop((Loop EC d O T loop.trips -∗ Q ⟨⟩)
        -∗ wp frame (wpE defs 𝒱 (d : Thread nD τ) bd) Set.univ (Scf.Loop.for loop loop_ok ⟨⟩ fun t _ => step O t) Q) :=
  wp_count 𝒱 d bd loop loop_ok (step O) (Loop EC d O T) (wp_step EC 𝒱 d bd O T hC)

end Ffn
-- ==== Proof.Whole.lean ====
/-
  The whole body: from the arrays, the buffers and the semaphores to the result, and all of them back.
-/
module

public import proofs.«01_k».proof.Proof.Turn

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {U : Type} [URA U] {Λ : Labels}

local notation "𝕄" => MT nD τ sig Unit (Elt F) ℕ U ℕ

/-! ## Arrays and rings as blocks -/

section Blocks

variable (c : Thread nD τ)

theorem squeeze_any {sp : Space} {sh s' : Shape} {e : EltTy} (m : Memref sig c.2.kind sp sh e) (h : sh.Squeezes s') :
    (iprop(∃ Y, owns c (m.squeeze s' h) fullShare Y) : sProp 𝕄) ⊢ iprop(∃ X, owns c m fullShare X) := by
  iintro ⟨%Y, H⟩
  iexists fun i => Y ((Shape.reshapeEquiv h.numel_eq).symm i)
  have hY : Y = fun j => (fun i => Y ((Shape.reshapeEquiv h.numel_eq).symm i)) (Shape.reshapeEquiv h.numel_eq j) := by
    funext j; simp
  rw [← owns_squeeze c m fullShare h (fun i => Y ((Shape.reshapeEquiv h.numel_eq).symm i)), ← hY]
  iexact H

theorem any_squeeze {sp : Space} {sh s' : Shape} {e : EltTy} (m : Memref sig c.2.kind sp sh e) (h : sh.Squeezes s') :
    (iprop(∃ X, owns c m fullShare X) : sProp 𝕄) ⊢ iprop(∃ Y, owns c (m.squeeze s' h) fullShare Y) := by
  have hX (X : sh.Idx → Elt F e) : (owns c m fullShare X : sProp 𝕄) ⊢ iprop(∃ Y, owns c (m.squeeze s' h) fullShare Y) := by
    have : (owns c (m.squeeze s' h) fullShare (fun j => X (Shape.reshapeEquiv h.numel_eq j)) : sProp 𝕄)
        ⊢ iprop(∃ Y, owns c (m.squeeze s' h) fullShare Y) := by
      iintro H
      iexists _
      iexact H
    rw [owns_squeeze c m fullShare h X] at this
    exact this
  iintro ⟨%X, H⟩
  iapply (hX X)
  iexact H

end Blocks

variable (d : Dev nD)

theorem srcG_split (w : Memref sig .tc .hbm S36x1536x512 .fp8e4m3) (W : S36x1536x512.Idx → Elt F .fp8e4m3) :
    (owns (d : Thread nD τ) w fullShare W : sProp 𝕄) ⊢ bigSep Finset.univ fun i : Fin 36 => owns (d : Thread nD τ) (srcG w i) fullShare (moveG W i) := by
  refine (split_lead inbG36 (d : Thread nD τ) w fullShare W).trans (bigSep_each fun i => ?_)
  unfold srcG moveG
  rw [owns_squeeze (d : Thread nD τ) _ fullShare sqG (blkW W i)]
  exact BIBase.Entails.of_eq rfl

theorem srcG_join [∀ e, Nonempty (Elt F e)] (w : Memref sig .tc .hbm S36x1536x512 .fp8e4m3) (W : S36x1536x512.Idx → Elt F .fp8e4m3) :
    (bigSep Finset.univ fun i : Fin 36 => owns (d : Thread nD τ) (srcG w i) fullShare (moveG W i)) ⊢ (owns (d : Thread nD τ) w fullShare W : sProp 𝕄) := by
  refine BIBase.Entails.trans (bigSep_each fun i => ?_) (join_lead inbG36 (d : Thread nD τ) w fullShare W)
  unfold srcG moveG
  rw [owns_squeeze (d : Thread nD τ) _ fullShare sqG (blkW W i)]
  exact BIBase.Entails.of_eq rfl

theorem srcD_split (w : Memref sig .tc .hbm S36x512x1536 .fp8e4m3) (W : S36x512x1536.Idx → Elt F .fp8e4m3) :
    (owns (d : Thread nD τ) w fullShare W : sProp 𝕄) ⊢ bigSep Finset.univ fun i : Fin 36 => owns (d : Thread nD τ) (srcD w i) fullShare (moveD W i) := by
  refine (split_lead inbD36 (d : Thread nD τ) w fullShare W).trans (bigSep_each fun i => ?_)
  unfold srcD moveD
  rw [owns_squeeze (d : Thread nD τ) _ fullShare sqD (blkD W i)]
  exact BIBase.Entails.of_eq rfl

theorem srcD_join [∀ e, Nonempty (Elt F e)] (w : Memref sig .tc .hbm S36x512x1536 .fp8e4m3) (W : S36x512x1536.Idx → Elt F .fp8e4m3) :
    (bigSep Finset.univ fun i : Fin 36 => owns (d : Thread nD τ) (srcD w i) fullShare (moveD W i)) ⊢ (owns (d : Thread nD τ) w fullShare W : sProp 𝕄) := by
  refine BIBase.Entails.trans (bigSep_each fun i => ?_) (join_lead inbD36 (d : Thread nD τ) w fullShare W)
  unfold srcD moveD
  rw [owns_squeeze (d : Thread nD τ) _ fullShare sqD (blkD W i)]
  exact BIBase.Entails.of_eq rfl

theorem dstG_split (b : Memref sig .tc .vmem S13x1536x512 .fp8e4m3) :
    (iprop(∃ X, owns (d : Thread nD τ) b fullShare X) : sProp 𝕄)
      ⊢ bigSep Finset.univ fun k : Fin 13 => iprop(∃ Y, owns (d : Thread nD τ) (dstG b k) fullShare Y) := by
  iintro ⟨%X, H⟩
  ihave H := (split_lead inbG13 (d : Thread nD τ) b fullShare X) $$ H
  iapply (bigSep_each fun k => (BIBase.Entails.trans ?_ (any_squeeze (d : Thread nD τ) _ sqG))) $$ H
  iintro H; iexists _; iexact H

theorem dstG_join [∀ e, Nonempty (Elt F e)] (b : Memref sig .tc .vmem S13x1536x512 .fp8e4m3) :
    (bigSep Finset.univ fun k : Fin 13 => iprop(∃ Y, owns (d : Thread nD τ) (dstG b k) fullShare Y))
      ⊢ (iprop(∃ X, owns (d : Thread nD τ) b fullShare X) : sProp 𝕄) :=
  BIBase.Entails.trans (bigSep_each fun k => squeeze_any (d : Thread nD τ) _ sqG) (join_lead_any inbG13 (d : Thread nD τ) b fullShare)

theorem dstD_split (b : Memref sig .tc .vmem S13x512x1536 .fp8e4m3) :
    (iprop(∃ X, owns (d : Thread nD τ) b fullShare X) : sProp 𝕄)
      ⊢ bigSep Finset.univ fun k : Fin 13 => iprop(∃ Y, owns (d : Thread nD τ) (dstD b k) fullShare Y) := by
  iintro ⟨%X, H⟩
  ihave H := (split_lead inbD13 (d : Thread nD τ) b fullShare X) $$ H
  iapply (bigSep_each fun k => (BIBase.Entails.trans ?_ (any_squeeze (d : Thread nD τ) _ sqD))) $$ H
  iintro H; iexists _; iexact H

theorem dstD_join [∀ e, Nonempty (Elt F e)] (b : Memref sig .tc .vmem S13x512x1536 .fp8e4m3) :
    (bigSep Finset.univ fun k : Fin 13 => iprop(∃ Y, owns (d : Thread nD τ) (dstD b k) fullShare Y))
      ⊢ (iprop(∃ X, owns (d : Thread nD τ) b fullShare X) : sProp 𝕄) :=
  BIBase.Entails.trans (bigSep_each fun k => squeeze_any (d : Thread nD τ) _ sqD) (join_lead_any inbD13 (d : Thread nD τ) b fullShare)

variable (O : Operands sig)

/-- The two halves of each buffer. -/
theorem halves_split :
    (iprop((∃ X, owns (d : Thread nD τ) O.hq fullShare X) ∗ (∃ X, owns (d : Thread nD τ) O.hs fullShare X) ∗ (∃ X, owns (d : Thread nD τ) O.yv fullShare X)) : sProp 𝕄)
      ⊢ iprop(((∃ X, HqAt d O 0 X) ∗ (∃ X, HqAt d O 1 X)) ∗ ((∃ X, HsAt d O 0 X) ∗ (∃ X, HsAt d O 1 X))
        ∗ ((∃ X, YvAt d O 0 X) ∗ (∃ X, YvAt d O 1 X))) := by
  iintro ⟨⟨%X1, H1⟩, ⟨%X2, H2⟩, ⟨%X3, H3⟩⟩
  have h1 := split_lead (Val := Elt F) (U := U) inbHq (d : Thread nD τ) O.hq fullShare X1
  have h2 := split_lead (Val := Elt F) (U := U) inbHs (d : Thread nD τ) O.hs fullShare X2
  have h3 := split_lead (Val := Elt F) (U := U) inbY (d : Thread nD τ) O.yv fullShare X3
  rw [bigSep_fin_two] at h1 h2 h3
  have h1 : (owns (d : Thread nD τ) O.hq fullShare X1 : sProp 𝕄) ⊢ iprop(HqAt d O 0 _ ∗ HqAt d O 1 _) := h1
  have h2 : (owns (d : Thread nD τ) O.hs fullShare X2 : sProp 𝕄) ⊢ iprop(HsAt d O 0 _ ∗ HsAt d O 1 _) := h2
  have h3 : (owns (d : Thread nD τ) O.yv fullShare X3 : sProp 𝕄) ⊢ iprop(YvAt d O 0 _ ∗ YvAt d O 1 _) := h3
  ihave H1 := h1 $$ H1
  ihave H2 := h2 $$ H2
  ihave H3 := h3 $$ H3
  icases H1 with ⟨A1, B1⟩
  icases H2 with ⟨A2, B2⟩
  icases H3 with ⟨A3, B3⟩
  isplitl [A1 B1]
  · isplitl [A1]
    · iexists _; iexact A1
    · iexists _; iexact B1
  isplitl [A2 B2]
  · isplitl [A2]
    · iexists _; iexact A2
    · iexists _; iexact B2
  isplitl [A3]
  · iexists _; iexact A3
  · iexists _; iexact B3

theorem halves_join [∀ e, Nonempty (Elt F e)] :
    (iprop(((∃ X, HqAt d O 0 X) ∗ (∃ X, HqAt d O 1 X)) ∗ ((∃ X, HsAt d O 0 X) ∗ (∃ X, HsAt d O 1 X))
        ∗ ((∃ X, YvAt d O 0 X) ∗ (∃ X, YvAt d O 1 X))) : sProp 𝕄)
      ⊢ iprop((∃ X, owns (d : Thread nD τ) O.hq fullShare X) ∗ (∃ X, owns (d : Thread nD τ) O.hs fullShare X) ∗ (∃ X, owns (d : Thread nD τ) O.yv fullShare X)) := by
  unfold HqAt HsAt YvAt
  have h1 := join_lead_any (Val := Elt F) (U := U) inbHq (d : Thread nD τ) O.hq fullShare
  have h2 := join_lead_any (Val := Elt F) (U := U) inbHs (d : Thread nD τ) O.hs fullShare
  have h3 := join_lead_any (Val := Elt F) (U := U) inbY (d : Thread nD τ) O.yv fullShare
  rw [bigSep_fin_two] at h1 h2 h3
  iintro ⟨H1, H2, H3⟩
  isplitl [H1]; · iapply h1; iexact H1
  isplitl [H2]; · iapply h2; iexact H2
  iapply h3; iexact H3

end Ffn
-- ==== Proof.Body.lean ====
/-
  Before the loop, after it, and the whole body: from the arrays, the buffers and the semaphores to the result,
  and all of them back.
-/
module

public import proofs.«01_k».proof.Proof.Whole

@[expose] public section

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {U : Type} [URA U] {Λ : Labels}

local notation "𝕄" => MT nD τ sig Unit (Elt F) ℕ U ℕ

variable (EC : UEmb Counters (MT nD τ sig Unit (Elt F) ℕ U ℕ)) [EC.LandsIn (upEmb : UEmb _ (MT nD τ sig Unit (Elt F) ℕ U ℕ))]
variable {defs : Defs nD τ sig (Elt F) Λ} (𝒱 : Variants) (d : Dev nD) (bd : Option 𝒱.V) (O : Operands sig) (T : Vals F)

/-! ## The pieces held -/

/-- The arrays of column scales, their buffers at some contents, and the three semaphores. -/
def Small : sProp 𝕄 :=
  iprop(owns (d : Thread nD τ) O.sg fullShare T.SG ∗ owns (d : Thread nD τ) O.su fullShare T.SU ∗ owns (d : Thread nD τ) O.sd fullShare T.SD
    ∗ (∃ X, owns (d : Thread nD τ) O.bsg fullShare X) ∗ (∃ X, owns (d : Thread nD τ) O.bsu fullShare X) ∗ (∃ X, owns (d : Thread nD τ) O.bsd fullShare X)
    ∗ semVal ((d : Thread nD τ), .dma (cell6 O.semS ⟨3, by decide⟩)) 0 ∗ semVal ((d : Thread nD τ), .dma (cell6 O.semS ⟨4, by decide⟩)) 0
    ∗ semVal ((d : Thread nD τ), .dma (cell6 O.semS ⟨5, by decide⟩)) 0)

/-- The three copies in flight. -/
def SmallFly : sProp 𝕄 :=
  iprop(Transfers.Flight EC (d : Thread nD τ) (.dma (cell6 O.semS ⟨3, by decide⟩)) () O.bsg.view.dmaCredit
      iprop(owns (d : Thread nD τ) O.bsg fullShare T.SG ∗ owns (d : Thread nD τ) O.sg fullShare T.SG)
    ∗ Transfers.Flight EC (d : Thread nD τ) (.dma (cell6 O.semS ⟨4, by decide⟩)) () O.bsu.view.dmaCredit
      iprop(owns (d : Thread nD τ) O.bsu fullShare T.SU ∗ owns (d : Thread nD τ) O.su fullShare T.SU)
    ∗ Transfers.Flight EC (d : Thread nD τ) (.dma (cell6 O.semS ⟨5, by decide⟩)) () O.bsd.view.dmaCredit
      iprop(owns (d : Thread nD τ) O.bsd fullShare T.SD ∗ owns (d : Thread nD τ) O.sd fullShare T.SD))

/-- The arrays here, their buffers filled, the semaphores at zero. -/
def SmallIn : sProp 𝕄 :=
  iprop((owns (d : Thread nD τ) O.bsg fullShare T.SG ∗ owns (d : Thread nD τ) O.bsu fullShare T.SU ∗ owns (d : Thread nD τ) O.bsd fullShare T.SD)
    ∗ (owns (d : Thread nD τ) O.sg fullShare T.SG ∗ owns (d : Thread nD τ) O.su fullShare T.SU ∗ owns (d : Thread nD τ) O.sd fullShare T.SD)
    ∗ semVal ((d : Thread nD τ), .dma (cell6 O.semS ⟨3, by decide⟩)) 0 ∗ semVal ((d : Thread nD τ), .dma (cell6 O.semS ⟨4, by decide⟩)) 0
    ∗ semVal ((d : Thread nD τ), .dma (cell6 O.semS ⟨5, by decide⟩)) 0)

theorem wp_startSmall {Q : PUnit → sProp 𝕄} :
    (Small d O T : sProp 𝕄)
      ⊢ iprop((SmallFly EC d O T -∗ Q ⟨⟩) -∗ wp frame (wpE defs 𝒱 (d : Thread nD τ) bd) Set.univ (startSmall O) Q) := by
  unfold Small SmallFly
  iintro ⟨Hg, Hu, Hd, ⟨%Xg, Bg⟩, ⟨%Xu, Bu⟩, ⟨%Xd, Bd⟩, Sg, Su, Sd⟩ HK
  unfold startSmall
  rw [wp_bind]
  iapply (wp_copy 𝒱 (d : Thread nD τ) bd EC (counted O).sg) $$ [Hg Bg Sg]
  · isplitl [Hg]; · iexact Hg
    isplitl [Bg]; · iexact Bg
    iexact Sg
  iintro Fg
  rw [wp_bind]
  iapply (wp_copy 𝒱 (d : Thread nD τ) bd EC (counted O).su) $$ [Hu Bu Su]
  · isplitl [Hu]; · iexact Hu
    isplitl [Bu]; · iexact Bu
    iexact Su
  iintro Fu
  iapply (wp_copy 𝒱 (d : Thread nD τ) bd EC (counted O).sd) $$ [Hd Bd Sd]
  · isplitl [Hd]; · iexact Hd
    isplitl [Bd]; · iexact Bd
    iexact Sd
  iintro Fd
  iapply HK
  isplitl [Fg]; · iexact Fg
  isplitl [Fu]; · iexact Fu
  iexact Fd

theorem wp_waitSmall {Q : PUnit → sProp 𝕄} :
    (iprop(SmallFly EC d O T ∗ ∃ W, owes (d : Thread nD τ) 0 W) : sProp 𝕄)
      ⊢ iprop((iprop(SmallIn d O T ∗ ∃ W, owes (d : Thread nD τ) 0 W) -∗ Q ⟨⟩)
        -∗ wp frame (wpE defs 𝒱 (d : Thread nD τ) bd) Set.univ (waitSmall O) Q) := by
  unfold SmallFly SmallIn
  iintro ⟨⟨Fg, Fu, Fd⟩, HW⟩ HK
  unfold waitSmall
  rw [wp_bind]
  iapply (wp_await 𝒱 (d : Thread nD τ) bd EC) $$ [Fg HW]
  · isplitl [Fg]; · iexact Fg
    iexact HW
  iintro ⟨⟨Bg, Hg⟩, Sg, HW⟩
  rw [wp_bind]
  iapply (wp_await 𝒱 (d : Thread nD τ) bd EC) $$ [Fu HW]
  · isplitl [Fu]; · iexact Fu
    iexact HW
  iintro ⟨⟨Bu, Hu⟩, Su, HW⟩
  iapply (wp_await 𝒱 (d : Thread nD τ) bd EC) $$ [Fd HW]
  · isplitl [Fd]; · iexact Fd
    iexact HW
  iintro ⟨⟨Bd, Hd⟩, Sd, HW⟩
  iapply HK
  isplitl [Bg Bu Bd Hg Hu Hd Sg Su Sd]
  · isplitl [Bg Bu Bd]
    · isplitl [Bg]; · iexact Bg
      isplitl [Bu]; · iexact Bu
      iexact Bd
    isplitl [Hg Hu Hd]
    · isplitl [Hg]; · iexact Hg
      isplitl [Hu]; · iexact Hu
      iexact Hd
    isplitl [Sg]; · iexact Sg
    isplitl [Su]; · iexact Su
    iexact Sd
  iexact HW

/-- The three rings while they are filled for the first time. -/
def Filling (j : ℕ) : sProp 𝕄 :=
  iprop((RingG EC d O.wg O.bg O.semG T.WG (stInit j) ∗ Free (d : Thread nD τ) (dstG O.bg) (cell O.semG) j)
    ∗ (RingG EC d O.wu O.bu O.semU T.WU (stInit j) ∗ Free (d : Thread nD τ) (dstG O.bu) (cell O.semU) j)
    ∗ (RingD EC d O.wd O.bd O.semD T.WD (stInit j) ∗ Free (d : Thread nD τ) (dstD O.bd) (cell O.semD) j))

theorem wp_startSlot (k : Fin 13) {Q : PUnit → sProp 𝕄} :
    (Filling EC d O T k.val : sProp 𝕄)
      ⊢ iprop((Filling EC d O T (k.val + 1) -∗ Q ⟨⟩) -∗ wp frame (wpE defs 𝒱 (d : Thread nD τ) bd) Set.univ (startSlot O k) Q) := by
  have hlt : k.val < 36 := Nat.lt_trans k.isLt (by decide)
  have hk : k = sl ⟨k.val, hlt⟩ := Fin.ext (Nat.mod_eq_of_lt k.isLt).symm
  have hσ : stInit k.val ⟨k.val, hlt⟩ = .idle := stInit_idle ⟨k.val, hlt⟩
  have hs : Function.update (stInit k.val) ⟨k.val, hlt⟩ .fly = stInit (k.val + 1) := stInit_step ⟨k.val, hlt⟩
  unfold Filling
  iintro ⟨⟨HG, FG⟩, ⟨HU, FU⟩, ⟨HD, FD⟩⟩ HK
  ihave FG := (free_take (d : Thread nD τ) (dstG O.bg) (cell O.semG) k) $$ FG
  ihave FU := (free_take (d : Thread nD τ) (dstG O.bu) (cell O.semU) k) $$ FU
  ihave FD := (free_take (d : Thread nD τ) (dstD O.bd) (cell O.semD) k) $$ FD
  icases FG with ⟨⟨%Yg, Sg⟩, FG⟩
  icases FU with ⟨⟨%Yu, Su⟩, FU⟩
  icases FD with ⟨⟨%Yd, Sd⟩, FD⟩
  unfold startSlot startG startD
  rw [wp_bind]
  iapply (ring_start EC (d : Thread nD τ) (srcG O.wg) (dstG O.bg) (cell O.semG) (moveG T.WG) 𝒱 bd hk hσ ((counted O).g k)) $$ [HG Sg]
  · isplitl [HG]; · iexact HG
    iexact Sg
  iintro HG
  rw [wp_bind]
  iapply (ring_start EC (d : Thread nD τ) (srcG O.wu) (dstG O.bu) (cell O.semU) (moveG T.WU) 𝒱 bd hk hσ ((counted O).u k)) $$ [HU Su]
  · isplitl [HU]; · iexact HU
    iexact Su
  iintro HU
  iapply (ring_start EC (d : Thread nD τ) (srcD O.wd) (dstD O.bd) (cell O.semD) (moveD T.WD) 𝒱 bd hk hσ ((counted O).d k)) $$ [HD Sd]
  · isplitl [HD]; · iexact HD
    iexact Sd
  iintro HD
  rw [hs]
  iapply HK
  isplitl [HG FG]
  · isplitl [HG]; · iexact HG
    iexact FG
  isplitl [HU FU]
  · isplitl [HU]; · iexact HU
    iexact FU
  isplitl [HD]; · iexact HD
  iexact FD

theorem wp_clearHq {Q : PUnit → sProp 𝕄} :
    (iprop(∃ X, owns (d : Thread nD τ) O.hq fullShare X) : sProp 𝕄)
      ⊢ iprop((iprop(∃ X, owns (d : Thread nD τ) O.hq fullShare X) -∗ Q ⟨⟩)
        -∗ wp frame (wpE defs 𝒱 (d : Thread nD τ) bd) Set.univ (clearHq O) Q) := by
  iintro ⟨%X, H⟩ HK
  unfold clearHq
  rw [wp_bind]
  iapply (wp_ld 𝒱 (d : Thread nD τ) bd) $$ H
  iintro H
  iapply (wp_st 𝒱 (d : Thread nD τ) bd) $$ H
  iintro ⟨%Y, -, H⟩
  iapply HK
  iexists Y
  iexact H

/-- The three staged operands. -/
def Staged : sProp 𝕄 :=
  iprop(owns (d : Thread nD τ) O.xg fullShare T.XG ∗ owns (d : Thread nD τ) O.xs fullShare T.XS ∗ owns (d : Thread nD τ) O.r fullShare T.R)

/-- The first experts, up to the loop: from the rings filled once to the loop's first state. -/
theorem wp_first {Q : PUnit → sProp 𝕄} :
    (iprop(RingG EC d O.wg O.bg O.semG T.WG (stAt 0) ∗ RingG EC d O.wu O.bu O.semU T.WU (stAt 0) ∗ RingD EC d O.wd O.bd O.semD T.WD (stAt 0)
        ∗ Reads d O T ∗ ((∃ X, HqAt d O 0 X) ∗ (∃ X, HqAt d O 1 X)) ∗ ((∃ X, HsAt d O 0 X) ∗ (∃ X, HsAt d O 1 X))
        ∗ ((∃ X, YvAt d O 0 X) ∗ (∃ X, YvAt d O 1 X)) ∗ (∃ Y, owns (d : Thread nD τ) O.y fullShare Y) ∗ ∃ W, owes (d : Thread nD τ) 0 W) : sProp 𝕄)
      ⊢ iprop((Loop EC d O T 0 -∗ Q ⟨⟩)
        -∗ wp frame (wpE defs 𝒱 (d : Thread nD τ) bd) Set.univ (do
            gateUp O ⟨0, by decide⟩ ⟨0, by decide⟩ ⟨0, by decide⟩
            startGU O ⟨13, by decide⟩ ⟨0, by decide⟩
            gateUp O ⟨1, by decide⟩ ⟨1, by decide⟩ ⟨1, by decide⟩
            down O ⟨0, by decide⟩ ⟨0, by decide⟩ ⟨0, by decide⟩
            startGU O ⟨14, by decide⟩ ⟨1, by decide⟩
            startDn O ⟨13, by decide⟩ ⟨0, by decide⟩) Q) := by
  have m0 : Function.update (stAt 0) ⟨0, by decide⟩ .idle ⟨13, by decide⟩ = .idle
      ∧ Function.update (Function.update (stAt 0) ⟨0, by decide⟩ .idle) ⟨13, by decide⟩ .fly = stAt 1 := stAt_more ⟨0, by decide⟩ ⟨13, by decide⟩ rfl
  have m1 : Function.update (stAt 1) ⟨1, by decide⟩ .idle ⟨14, by decide⟩ = .idle
      ∧ Function.update (Function.update (stAt 1) ⟨1, by decide⟩ .idle) ⟨14, by decide⟩ .fly = stAt 2 := stAt_more ⟨1, by decide⟩ ⟨14, by decide⟩ rfl
  have k0 : (⟨0, by decide⟩ : Fin 13) = sl ⟨0, by decide⟩ := rfl
  have k1 : (⟨1, by decide⟩ : Fin 13) = sl ⟨1, by decide⟩ := rfl
  have k13 : (⟨0, by decide⟩ : Fin 13) = sl ⟨13, by decide⟩ := rfl
  have k14 : (⟨1, by decide⟩ : Fin 13) = sl ⟨14, by decide⟩ := rfl
  have f0 : stAt 0 ⟨0, by decide⟩ = .fly := stAt_fly ⟨0, by decide⟩
  have f1 : stAt 1 ⟨1, by decide⟩ = .fly := stAt_fly ⟨1, by decide⟩
  iintro ⟨HG, HU, HD, HR, ⟨Hq0, Hq1⟩, ⟨Hs0, Hs1⟩, ⟨Hy0, Hy1⟩, ⟨%Y, Hy⟩, HW⟩ HK
  rw [wp_bind]
  iapply (wp_gateUp EC 𝒱 d bd O T _ k0 f0) $$ [HG HU HR Hq0 Hs0 HW]
  · isplitl [HG]; · iexact HG
    isplitl [HU]; · iexact HU
    isplitl [HR]; · iexact HR
    isplitl [Hq0]; · iexact Hq0
    isplitl [Hs0]; · iexact Hs0
    iexact HW
  iintro ⟨HG, HU, Sg, Su, HR, Hq0, Hs0, HW⟩
  rw [wp_bind]
  iapply (wp_startGU EC 𝒱 d bd O T (counted O) k13 m0.1) $$ [HG HU Sg Su]
  · isplitl [HG]; · iexact HG
    isplitl [HU]; · iexact HU
    isplitl [Sg]; · iexact Sg
    iexact Su
  rw [m0.2]
  iintro ⟨HG, HU⟩
  rw [wp_bind]
  iapply (wp_gateUp EC 𝒱 d bd O T _ k1 f1) $$ [HG HU HR Hq1 Hs1 HW]
  · isplitl [HG]; · iexact HG
    isplitl [HU]; · iexact HU
    isplitl [HR]; · iexact HR
    isplitl [Hq1]; · iexact Hq1
    isplitl [Hs1]; · iexact Hs1
    iexact HW
  iintro ⟨HG, HU, Sg, Su, HR, Hq1, Hs1, HW⟩
  rw [wp_bind]
  iapply (wp_down EC 𝒱 d bd O T _ k0 f0) $$ [HD HR Hq0 Hs0 Hy0 HW]
  · isplitl [HD]; · iexact HD
    isplitl [HR]; · iexact HR
    isplitl [Hq0]; · iexact Hq0
    isplitl [Hs0]; · iexact Hs0
    isplitl [Hy0]; · iexact Hy0
    iexact HW
  iintro ⟨HD, Sd, HR, Hq0, Hs0, Hy0, HW⟩
  rw [wp_bind]
  iapply (wp_startGU EC 𝒱 d bd O T (counted O) k14 m1.1) $$ [HG HU Sg Su]
  · isplitl [HG]; · iexact HG
    isplitl [HU]; · iexact HU
    isplitl [Sg]; · iexact Sg
    iexact Su
  rw [m1.2]
  iintro ⟨HG, HU⟩
  iapply (wp_startDn EC 𝒱 d bd O T (counted O) k13 m0.1) $$ [HD Sd]
  · isplitl [HD]; · iexact HD
    iexact Sd
  rw [m0.2]
  iintro HD
  iapply HK
  unfold Loop Mid Done
  iexists ⟨1, by decide⟩, ⟨0, by decide⟩
  isplitr; · ipureintro; exact ⟨rfl, rfl⟩
  isplitl [HG]; · iexact HG
  isplitl [HU]; · iexact HU
  isplitl [HD]; · iexact HD
  isplitl [HR]; · iexact HR
  isplitl [Hq0]; · iexists _; iexact Hq0
  isplitl [Hs0]; · iexists _; iexact Hs0
  isplitl [Hq1]; · iexact Hq1
  isplitl [Hs1]; · iexact Hs1
  isplitl [Hy0]; · iexact Hy0
  isplitl [Hy1]; · iexact Hy1
  isplitl [Hy]
  · iexists Y
    isplitr; · ipureintro; intro p hp; exact absurd hp (Nat.not_lt_zero _)
    iexact Hy
  iexact HW

/-- The last experts, after the loop. -/
theorem wp_after {Q : PUnit → sProp 𝕄} :
    (Loop EC d O T 17 : sProp 𝕄)
      ⊢ iprop((iprop(RingG EC d O.wg O.bg O.semG T.WG (stAt 36) ∗ RingG EC d O.wu O.bu O.semU T.WU (stAt 36) ∗ RingD EC d O.wd O.bd O.semD T.WD (stAt 36)
          ∗ Reads d O T ∗ ((∃ X, HqAt d O 0 X) ∗ (∃ X, HqAt d O 1 X)) ∗ ((∃ X, HsAt d O 0 X) ∗ (∃ X, HsAt d O 1 X))
          ∗ ((∃ X, YvAt d O 0 X) ∗ (∃ X, YvAt d O 1 X)) ∗ owns (d : Thread nD τ) O.y fullShare (yAll T) ∗ ∃ W, owes (d : Thread nD τ) 0 W) -∗ Q ⟨⟩)
        -∗ wp frame (wpE defs 𝒱 (d : Thread nD τ) bd) Set.univ (after O) Q) := by
  unfold Loop
  iintro ⟨%e1, %e2, %he, HM⟩ HK
  have h1 : e1 = ⟨35, by decide⟩ := Fin.ext (by have := he.1; omega)
  have h2 : e2 = ⟨34, by decide⟩ := Fin.ext (by have := he.2; omega)
  subst h1 h2
  have k35 : (⟨9, by decide⟩ : Fin 13) = sl ⟨35, by decide⟩ := rfl
  unfold Mid
  icases HM with ⟨HG, HU, HD, HR, Hq0, Hs0, Hq1, Hs1, Hy0, Hy1, Hdone, HW⟩
  unfold after
  rw [wp_bind]
  iapply (wp_combine 𝒱 d bd O T _ _) $$ [Hdone Hy0]
  · isplitl [Hdone]; · iexact Hdone
    iexact Hy0
  iintro ⟨Hdone, Hy0⟩
  rw [wp_bind]
  iapply (wp_down EC 𝒱 d bd O T _ k35 (stAt_fly _)) $$ [HD HR Hq1 Hs1 Hy1 HW]
  · isplitl [HD]; · iexact HD
    isplitl [HR]; · iexact HR
    isplitl [Hq1]; · iexact Hq1
    isplitl [Hs1]; · iexact Hs1
    isplitl [Hy1]; · iexact Hy1
    iexact HW
  iintro ⟨HD, Sd, HR, Hq1, Hs1, Hy1, HW⟩
  ihave HD := (ring_keep EC (d : Thread nD τ) (srcD O.wd) (dstD O.bd) (cell O.semD) (moveD T.WD) k35
    (Function.update_self _ _ _)) $$ [HD Sd]
  · isplitl [HD]; · iexact HD
    iexact Sd
  rw [stAt_last ⟨35, by decide⟩ (by decide)]
  iapply (wp_combine 𝒱 d bd O T _ _) $$ [Hdone Hy1]
  · isplitl [Hdone]; · iexact Hdone
    iexact Hy1
  unfold Done
  iintro ⟨⟨%Y, %hY, Hy⟩, Hy1⟩
  have hYe : Y = yAll T := funext fun p => hY p (p 0).isLt
  subst hYe
  iapply HK
  isplitl [HG]; · iexact HG
  isplitl [HU]; · iexact HU
  isplitl [HD]; · iexact HD
  isplitl [HR]; · iexact HR
  isplitl [Hq0 Hq1]
  · isplitl [Hq0]; · iexact Hq0
    iexists _; iexact Hq1
  isplitl [Hs0 Hs1]
  · isplitl [Hs0]; · iexact Hs0
    iexists _; iexact Hs1
  isplitl [Hy0 Hy1]
  · isplitl [Hy0]; · iexists _; iexact Hy0
    iexists _; iexact Hy1
  isplitl [Hy]; · iexact Hy
  iexact HW

/-! ## The whole body -/

/-- The weight arrays. -/
def Weights : sProp 𝕄 :=
  iprop(owns (d : Thread nD τ) O.wg fullShare T.WG ∗ owns (d : Thread nD τ) O.wu fullShare T.WU ∗ owns (d : Thread nD τ) O.wd fullShare T.WD)

/-- The rings' buffers and the three buffers of halves, at some contents. -/
def Scratch : sProp 𝕄 :=
  iprop(((∃ X, owns (d : Thread nD τ) O.bg fullShare X) ∗ (∃ X, owns (d : Thread nD τ) O.bu fullShare X) ∗ (∃ X, owns (d : Thread nD τ) O.bd fullShare X))
    ∗ ((∃ X, owns (d : Thread nD τ) O.hq fullShare X) ∗ (∃ X, owns (d : Thread nD τ) O.hs fullShare X) ∗ (∃ X, owns (d : Thread nD τ) O.yv fullShare X)))

/-- The rings' semaphores, at zero. -/
def Cells : sProp 𝕄 :=
  iprop((bigSep Finset.univ fun k : Fin 13 => semVal ((d : Thread nD τ), .dma (cell O.semG k)) 0)
    ∗ (bigSep Finset.univ fun k : Fin 13 => semVal ((d : Thread nD τ), .dma (cell O.semU k)) 0)
    ∗ (bigSep Finset.univ fun k : Fin 13 => semVal ((d : Thread nD τ), .dma (cell O.semD k)) 0))

/-- The rings as they are first filled. -/
theorem filling_first :
    (iprop(Weights d O T ∗ ((∃ X, owns (d : Thread nD τ) O.bg fullShare X) ∗ (∃ X, owns (d : Thread nD τ) O.bu fullShare X)
      ∗ (∃ X, owns (d : Thread nD τ) O.bd fullShare X)) ∗ Cells d O) : sProp 𝕄) ⊢ Filling EC d O T 0 := by
  unfold Weights Cells Filling
  iintro ⟨⟨Wg, Wu, Wd⟩, ⟨Bg, Bu, Bd⟩, ⟨Cg, Cu, Cd⟩⟩
  ihave Wg := (srcG_split d O.wg T.WG) $$ Wg
  ihave Wu := (srcG_split d O.wu T.WU) $$ Wu
  ihave Wd := (srcD_split d O.wd T.WD) $$ Wd
  ihave Bg := (dstG_split d O.bg) $$ Bg
  ihave Bu := (dstG_split d O.bu) $$ Bu
  ihave Bd := (dstD_split d O.bd) $$ Bd
  isplitl [Wg Bg Cg]
  · isplitl [Wg]
    · iapply (ring_first EC (d : Thread nD τ) (srcG O.wg) (dstG O.bg) (cell O.semG) (moveG T.WG)); iexact Wg
    · iapply (free_first (d : Thread nD τ) (dstG O.bg) (cell O.semG))
      isplitl [Bg]; · iexact Bg
      iexact Cg
  isplitl [Wu Bu Cu]
  · isplitl [Wu]
    · iapply (ring_first EC (d : Thread nD τ) (srcG O.wu) (dstG O.bu) (cell O.semU) (moveG T.WU)); iexact Wu
    · iapply (free_first (d : Thread nD τ) (dstG O.bu) (cell O.semU))
      isplitl [Bu]; · iexact Bu
      iexact Cu
  · isplitl [Wd]
    · iapply (ring_first EC (d : Thread nD τ) (srcD O.wd) (dstD O.bd) (cell O.semD) (moveD T.WD)); iexact Wd
    · iapply (free_first (d : Thread nD τ) (dstD O.bd) (cell O.semD))
      isplitl [Bd]; · iexact Bd
      iexact Cd

/-- And what is left of them. -/
theorem rings_last [∀ e, Nonempty (Elt F e)] :
    (iprop(RingG EC d O.wg O.bg O.semG T.WG (stAt 36) ∗ RingG EC d O.wu O.bu O.semU T.WU (stAt 36) ∗ RingD EC d O.wd O.bd O.semD T.WD (stAt 36)) : sProp 𝕄)
      ⊢ iprop(Weights d O T ∗ ((∃ X, owns (d : Thread nD τ) O.bg fullShare X) ∗ (∃ X, owns (d : Thread nD τ) O.bu fullShare X)
      ∗ (∃ X, owns (d : Thread nD τ) O.bd fullShare X)) ∗ Cells d O) := by
  unfold Weights Cells
  iintro ⟨HG, HU, HD⟩
  ihave HG := (ring_last EC (d : Thread nD τ) (srcG O.wg) (dstG O.bg) (cell O.semG) (moveG T.WG)) $$ HG
  ihave HU := (ring_last EC (d : Thread nD τ) (srcG O.wu) (dstG O.bu) (cell O.semU) (moveG T.WU)) $$ HU
  ihave HD := (ring_last EC (d : Thread nD τ) (srcD O.wd) (dstD O.bd) (cell O.semD) (moveD T.WD)) $$ HD
  icases HG with ⟨Wg, Bg, Cg⟩
  icases HU with ⟨Wu, Bu, Cu⟩
  icases HD with ⟨Wd, Bd, Cd⟩
  isplitl [Wg Wu Wd]
  · isplitl [Wg]; · iapply (srcG_join d O.wg T.WG); iexact Wg
    isplitl [Wu]; · iapply (srcG_join d O.wu T.WU); iexact Wu
    iapply (srcD_join d O.wd T.WD); iexact Wd
  isplitl [Bg Bu Bd]
  · isplitl [Bg]; · iapply (dstG_join d O.bg); iexact Bg
    isplitl [Bu]; · iapply (dstG_join d O.bu); iexact Bu
    iapply (dstD_join d O.bd); iexact Bd
  isplitl [Cg]; · iexact Cg
  isplitl [Cu]; · iexact Cu
  iexact Cd

include EC in
/-- The body. -/
theorem wp_body [∀ e, Nonempty (Elt F e)] {Q : PUnit → sProp 𝕄} :
    (iprop(Staged d O T ∗ Weights d O T ∗ Scratch d O ∗ Cells d O ∗ Small d O T
        ∗ (∃ Y, owns (d : Thread nD τ) O.y fullShare Y) ∗ ∃ W, owes (d : Thread nD τ) 0 W) : sProp 𝕄)
      ⊢ iprop((iprop(Staged d O T ∗ Weights d O T ∗ Scratch d O ∗ Cells d O ∗ Small d O T
            ∗ owns (d : Thread nD τ) O.y fullShare (yAll T) ∗ ∃ W, owes (d : Thread nD τ) 0 W) -∗ Q ⟨⟩)
        -∗ wp frame (wpE defs 𝒱 (d : Thread nD τ) bd) Set.univ (body O) Q) := by
  unfold Scratch
  iintro ⟨HX, HWt, ⟨HB, ⟨Hq, Hs, Hv⟩⟩, HC, HSm, Hy, HW⟩ HK
  ihave HF := (filling_first EC d O T) $$ [HWt HB HC]
  · isplitl [HWt]; · iexact HWt
    isplitl [HB]; · iexact HB
    iexact HC
  unfold body before
  simp only [bind_assoc]
  rw [wp_bind]
  iapply (wp_startSmall EC 𝒱 d bd O T) $$ HSm
  iintro HFly
  rw [wp_bind]
  iapply (wp_seqN (defs := defs) 𝒱 d bd 13 (startSlot O) (fun j => Filling EC d O T j) (fun k Q => wp_startSlot EC 𝒱 d bd O T k)) $$ HF
  iintro HF
  rw [wp_bind]
  iapply (wp_clearHq 𝒱 d bd O) $$ Hq
  iintro Hq
  rw [wp_bind]
  iapply (wp_waitSmall EC 𝒱 d bd O T) $$ [HFly HW]
  · isplitl [HFly]; · iexact HFly
    iexact HW
  unfold SmallIn Staged Filling
  iintro ⟨⟨⟨Bg, Bu, Bd⟩, HSa, HSc⟩, HW⟩
  icases HX with ⟨Hxg, Hxs, Hr⟩
  icases HF with ⟨⟨HG, FG⟩, ⟨HU, FU⟩, ⟨HD, FD⟩⟩
  ihave FG := (free_last (d : Thread nD τ) (dstG O.bg) (cell O.semG)) $$ FG
  ihave FU := (free_last (d : Thread nD τ) (dstG O.bu) (cell O.semU)) $$ FU
  ihave FD := (free_last (d : Thread nD τ) (dstD O.bd) (cell O.semD)) $$ FD
  rw [stInit_last]
  ihave HH := (halves_split d O) $$ [Hq Hs Hv]
  · isplitl [Hq]; · iexact Hq
    isplitl [Hs]; · iexact Hs
    iexact Hv
  icases HH with ⟨Hq, Hs, Hv⟩
  have hfirst := wp_first (defs := defs) EC 𝒱 d bd O T (Q := fun _ =>
    wp frame (wpE defs 𝒱 (d : Thread nD τ) bd) Set.univ (Scf.Loop.for loop loop_ok ⟨⟩ (fun t _ => step O t) >>= fun _ => after O) Q)
  rw [← wp_bind] at hfirst
  simp only [bind_assoc] at hfirst
  iapply hfirst $$ [HG HU HD Hxg Hxs Hr Bg Bu Bd Hq Hs Hv Hy HW]
  · isplitl [HG]; · iexact HG
    isplitl [HU]; · iexact HU
    isplitl [HD]; · iexact HD
    isplitl [Hxg Hxs Hr Bg Bu Bd]
    · unfold Reads
      isplitl [Hxg]; · iexact Hxg
      isplitl [Hxs]; · iexact Hxs
      isplitl [Hr]; · iexact Hr
      isplitl [Bg]; · iexact Bg
      isplitl [Bu]; · iexact Bu
      iexact Bd
    isplitl [Hq]; · iexact Hq
    isplitl [Hs]; · iexact Hs
    isplitl [Hv]; · iexact Hv
    isplitl [Hy]; · iexact Hy
    iexact HW
  iintro HL
  rw [wp_bind]
  iapply (wp_loop EC 𝒱 d bd O T (counted O)) $$ HL
  rw [loop_trips]
  iintro HL
  iapply (wp_after EC 𝒱 d bd O T) $$ HL
  unfold Reads
  iintro ⟨HG, HU, HD, ⟨Hxg, Hxs, Hr, Bg, Bu, Bd⟩, Hq, Hs, Hv, Hy, HW⟩
  ihave HR := (rings_last EC d O T) $$ [HG HU HD]
  · isplitl [HG]; · iexact HG
    isplitl [HU]; · iexact HU
    iexact HD
  icases HR with ⟨HWt, HB, HC⟩
  ihave HH := (halves_join d O) $$ [Hq Hs Hv]
  · isplitl [Hq]; · iexact Hq
    isplitl [Hs]; · iexact Hs
    iexact Hv
  iapply HK
  isplitl [Hxg Hxs Hr]
  · isplitl [Hxg]; · iexact Hxg
    isplitl [Hxs]; · iexact Hxs
    iexact Hr
  isplitl [HWt]; · iexact HWt
  isplitl [HB HH]
  · isplitl [HB]; · iexact HB
    iexact HH
  isplitl [HC]; · iexact HC
  isplitl [HSa HSc Bg Bu Bd]
  · unfold Small
    icases HSa with ⟨Sa, Sb, Sc⟩
    isplitl [Sa]; · iexact Sa
    isplitl [Sb]; · iexact Sb
    isplitl [Sc]; · iexact Sc
    isplitl [Bg]; · iexists _; iexact Bg
    isplitl [Bu]; · iexists _; iexact Bu
    isplitl [Bd]; · iexists _; iexact Bd
    iexact HSc
  isplitl [Hy]; · iexact Hy
  iexact HW

end Ffn
-- ==== Proof.LaunchK.lean ====
/-
  The launch: the body's triple at the operands the launch hands it, and the run of the program from it.
-/
module

public import proofs.«01_k».proof.Proof.Gen.Kernel.Frame
public import proofs.«01_k».proof.Proof.SameK
public import proofs.«01_k».proof.Proof.Body
public import Idealize.ShloMosaic.Lib.Pipeline.Frame
public import Idealize.ShloMosaic.Lib.Tactic
public import Idealize.ShloMosaic.Lib.Transfers

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The operands and their values -/

/-- What the body is called with at a point. -/
abbrev ops (t : Fin cfg0.N) : Ffn.Operands sig :=
  ⟨win0_0.stage (cfg0.slots t 0), win0_1.stage (cfg0.slots t 1), win0_2.stage (cfg0.slots t 2),
    Memref.whole main_arg3, Memref.isWhole_whole _, Memref.whole main_arg4, Memref.isWhole_whole _,
    Memref.whole main_arg5, Memref.isWhole_whole _, Memref.whole main_arg6, Memref.isWhole_whole _,
    Memref.whole main_arg7, Memref.isWhole_whole _, Memref.whole main_arg8, Memref.isWhole_whole _,
    win0_3.stage (cfg0.slots t 3),
    Memref.whole cc0_scratch0, Memref.isWhole_whole _, Memref.whole cc0_scratch1, Memref.isWhole_whole _,
    Memref.whole cc0_scratch2, Memref.isWhole_whole _, Memref.whole cc0_scratch3, Memref.isWhole_whole _,
    Memref.whole cc0_scratch4, Memref.isWhole_whole _, Memref.whole cc0_scratch5, Memref.isWhole_whole _,
    Memref.whole cc0_scratch6, Memref.isWhole_whole _, Memref.whole cc0_scratch7, Memref.whole cc0_scratch8,
    cc0_scratch9, cc0_scratch10, cc0_scratch11, cc0_scratch12⟩

/-- The values of the arrays as the launch finds them. -/
def vals (c : Dev nD) (t : Fin cfg0.N) : Ffn.Vals F where
  XG := iblk m c 0 t
  XS := iblk m c 1 t
  R := iblk m c 2 t
  WG := V m c main_arg3
  WU := V m c main_arg4
  SG := V m c main_arg5
  SU := V m c main_arg6
  WD := V m c main_arg7
  SD := V m c main_arg8

/-! ## The kernel's own semaphores and the arrays left in memory -/

/-- The kernel's own semaphore cells: the row of six, and the three rows of thirteen. -/
def osem0 : Fin 6 ⊕ (Fin 13 ⊕ (Fin 13 ⊕ Fin 13)) → SemLoc sig :=
  Sum.elim (fun k => .dma (Ffn.cell6 cc0_scratch9 k))
    (Sum.elim (fun k => .dma (Ffn.cell cc0_scratch10 k))
      (Sum.elim (fun k => .dma (Ffn.cell cc0_scratch11 k)) (fun k => .dma (Ffn.cell cc0_scratch12 k))))

theorem ownSemFacts0 : Pipeline.OwnSemFacts spec0 osem0 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), .dma (Ffn.cell6 cc0_scratch9 0)) 0 ∗ semVal ((c : Thread nD τ), .dma (Ffn.cell6 cc0_scratch9 1)) 0
          ∗ semVal ((c : Thread nD τ), .dma (Ffn.cell6 cc0_scratch9 2)) 0 ∗ semVal ((c : Thread nD τ), .dma (Ffn.cell6 cc0_scratch9 3)) 0
          ∗ semVal ((c : Thread nD τ), .dma (Ffn.cell6 cc0_scratch9 4)) 0 ∗ semVal ((c : Thread nD τ), .dma (Ffn.cell6 cc0_scratch9 5)) 0)
        ∗ (bigSep Finset.univ fun k : Fin 13 => semVal ((c : Thread nD τ), .dma (Ffn.cell cc0_scratch10 k)) 0)
        ∗ (bigSep Finset.univ fun k : Fin 13 => semVal ((c : Thread nD τ), .dma (Ffn.cell cc0_scratch11 k)) 0)
        ∗ (bigSep Finset.univ fun k : Fin 13 => semVal ((c : Thread nD τ), .dma (Ffn.cell cc0_scratch12 k)) 0)) := by
  unfold Pipeline.ownSems0
  rw [bigSep_univ_sum, bigSep_univ_sum, bigSep_univ_sum,
    bigSep_univ_eq_bigSepL [(0 : Fin 6), (1 : Fin 6), (2 : Fin 6), (3 : Fin 6), (4 : Fin 6), (5 : Fin 6)] (by decide) (by decide)]
  rfl

/-- The arrays the body copies from. -/
def H0 : Finset (Ref sig .tc) := {main_arg3, main_arg4, main_arg5, main_arg6, main_arg7, main_arg8}
theorem H0_sub : H0 ⊆ Pipeline.restRefs sig spec0 := by decide

theorem hbmPts0_eq (c : Dev nD) :
    (bigSep H0 (fun b => ((c : Thread nD τ).loc b) ↦{fullShare} V m c b) : sProp 𝕄)
      = iprop(owns (c : Thread nD τ) (Memref.whole main_arg3) fullShare (V m c main_arg3) ∗ owns (c : Thread nD τ) (Memref.whole main_arg4) fullShare (V m c main_arg4)
        ∗ owns (c : Thread nD τ) (Memref.whole main_arg5) fullShare (V m c main_arg5) ∗ owns (c : Thread nD τ) (Memref.whole main_arg6) fullShare (V m c main_arg6)
        ∗ owns (c : Thread nD τ) (Memref.whole main_arg7) fullShare (V m c main_arg7) ∗ owns (c : Thread nD τ) (Memref.whole main_arg8) fullShare (V m c main_arg8)) := by
  rw [BI.bigSep_eq_bigSepL_of_eq [main_arg3, main_arg4, main_arg5, main_arg6, main_arg7, main_arg8] (by decide) (by decide)]
  simp only [owns_whole]; rfl

/-- The invariant between the ends of the one point, part by part. -/
theorem PhiD0_eq (c : Dev nD) :
    (Pipeline.ΦD osem0 spec0 H0 (V m) c : sProp 𝕄)
      = iprop(((∃ d, owns (c : Thread nD τ) (Memref.whole cc0_scratch0) fullShare d) ∗ (∃ d, owns (c : Thread nD τ) (Memref.whole cc0_scratch1) fullShare d)
            ∗ (∃ d, owns (c : Thread nD τ) (Memref.whole cc0_scratch2) fullShare d) ∗ (∃ d, owns (c : Thread nD τ) (Memref.whole cc0_scratch3) fullShare d)
            ∗ (∃ d, owns (c : Thread nD τ) (Memref.whole cc0_scratch4) fullShare d) ∗ (∃ d, owns (c : Thread nD τ) (Memref.whole cc0_scratch5) fullShare d)
            ∗ (∃ d, owns (c : Thread nD τ) (Memref.whole cc0_scratch6) fullShare d) ∗ (∃ d, owns (c : Thread nD τ) (Memref.whole cc0_scratch7) fullShare d)
            ∗ (∃ d, owns (c : Thread nD τ) (Memref.whole cc0_scratch8) fullShare d)) ∗ (∃ r, prngReg c r)
        ∗ ((semVal ((c : Thread nD τ), .dma (Ffn.cell6 cc0_scratch9 0)) 0 ∗ semVal ((c : Thread nD τ), .dma (Ffn.cell6 cc0_scratch9 1)) 0
          ∗ semVal ((c : Thread nD τ), .dma (Ffn.cell6 cc0_scratch9 2)) 0 ∗ semVal ((c : Thread nD τ), .dma (Ffn.cell6 cc0_scratch9 3)) 0
          ∗ semVal ((c : Thread nD τ), .dma (Ffn.cell6 cc0_scratch9 4)) 0 ∗ semVal ((c : Thread nD τ), .dma (Ffn.cell6 cc0_scratch9 5)) 0)
        ∗ (bigSep Finset.univ fun k : Fin 13 => semVal ((c : Thread nD τ), .dma (Ffn.cell cc0_scratch10 k)) 0)
        ∗ (bigSep Finset.univ fun k : Fin 13 => semVal ((c : Thread nD τ), .dma (Ffn.cell cc0_scratch11 k)) 0)
        ∗ (bigSep Finset.univ fun k : Fin 13 => semVal ((c : Thread nD τ), .dma (Ffn.cell cc0_scratch12 k)) 0))
        ∗ (owns (c : Thread nD τ) (Memref.whole main_arg3) fullShare (V m c main_arg3) ∗ owns (c : Thread nD τ) (Memref.whole main_arg4) fullShare (V m c main_arg4)
        ∗ owns (c : Thread nD τ) (Memref.whole main_arg5) fullShare (V m c main_arg5) ∗ owns (c : Thread nD τ) (Memref.whole main_arg6) fullShare (V m c main_arg6)
        ∗ owns (c : Thread nD τ) (Memref.whole main_arg7) fullShare (V m c main_arg7) ∗ owns (c : Thread nD τ) (Memref.whole main_arg8) fullShare (V m c main_arg8))) := by
  rw [Pipeline.ΦD_eq, scopedRest0_eq, ownSems00_eq, hbmPts0_eq]; simp only [owns_whole]; try rfl

/-! ## The proof data -/

/-- The three inputs keep their blocks, the result's window ends at the products' result. -/
def dats (_ : Fin 1) (c : Dev nD) : Dat τ (Elt F) Unit ℕ (Pipeline.UD sig nD τ) ℕ cfg0 c where
  A w := V m c (Pipeline.arrRef spec0 w)
  after w t :=
    match w with
    | 0 => iblk m c 0 t
    | 1 => iblk m c 1 t
    | 2 => iblk m c 2 t
    | 3 => Ffn.yAll (vals m c t)
    | ⟨_ + 4, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- An input's staging buffer holds its block when the body runs. -/
theorem before0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; dsimp only) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; dsimp only) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; dsimp only) t d).trans
    (by unfold Dat.fetched Dat.blockOf iblk; rw [A_eq]; try rfl)

/-! ## The body at the point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (Ffn.yAll (vals m c t)))

/-- The body called at the point is the body in steps. -/
theorem bodyAt_eq (t : Fin cfg0.N) : bodyAt0 (F := F) t = Ffn.body (ops t) := body_eq ..

/-- The invariant and the windows are what the body's triple takes, the three semaphores it does not use left over. -/
theorem sound_body (c : Dev nD) (t : Fin cfg0.N) :
    bodyPre m c t ⊢ wp frame (wpE (defs₀ (F := F)) Variants.none c none) Set.univ (bodyAt0 t) (fun _ => bodyPost m c t) := by
  have hb := Ffn.wp_body (Λ := Λ₀) (defs := defs₀ (F := F))
    (countersEmb : UEmb Counters (MT nD τ sig Unit (Elt F) ℕ (Pipeline.UD sig nD τ) ℕ)) Variants.none c none (ops t) (vals m c t)
    (Q := fun _ => bodyPost m c t)
  unfold bodyPre
  rw [bodyAt_eq]
  unfold bodyPost at hb ⊢
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq] at hb ⊢
  unfold Dat.owesAt Pipeline.owesWithin at hb ⊢
  rw [show (dats m 0 c).owed t.castSucc = 0 from rfl] at hb ⊢
  unfold Ffn.Staged Ffn.Weights Ffn.Scratch Ffn.Cells Ffn.Small at hb
  iintro ⟨⟨⟨B0, B1, B2, B3, B4, B5, B6, B7, B8⟩, Hg, ⟨⟨S0, S1, S2, S3, S4, S5⟩, C1, C2, C3⟩, ⟨A3, A4, A5, A6, A7, A8⟩⟩, ⟨%W, %hW, HO⟩,
    ⟨%d0, W0⟩, ⟨%d1, W1⟩, ⟨%d2, W2⟩, ⟨%d3, W3⟩⟩
  rw [before0, before1, before2]
  iapply hb $$ [B0 B1 B2 B3 B4 B5 B6 B7 B8 S3 S4 S5 C1 C2 C3 A3 A4 A5 A6 A7 A8 HO W0 W1 W2 W3]
  · isplitl [W0 W1 W2]
    · isplitl [W0]; · iexact W0
      isplitl [W1]; · iexact W1
      iexact W2
    isplitl [A3 A4 A7]
    · isplitl [A3]; · iexact A3
      isplitl [A4]; · iexact A4
      iexact A7
    isplitl [B0 B1 B2 B6 B7 B8]
    · isplitl [B0 B1 B2]
      · isplitl [B0]; · iexact B0
        isplitl [B1]; · iexact B1
        iexact B2
      isplitl [B6]; · iexact B6
      isplitl [B7]; · iexact B7
      iexact B8
    isplitl [C1 C2 C3]
    · isplitl [C1]; · iexact C1
      isplitl [C2]; · iexact C2
      iexact C3
    isplitl [A5 A6 A8 B3 B4 B5 S3 S4 S5]
    · isplitl [A5]; · iexact A5
      isplitl [A6]; · iexact A6
      isplitl [A8]; · iexact A8
      isplitl [B3]; · iexact B3
      isplitl [B4]; · iexact B4
      isplitl [B5]; · iexact B5
      isplitl [S3]; · iexact S3
      isplitl [S4]; · iexact S4
      iexact S5
    isplitl [W3]; · iexists _; iexact W3
    iexists W; iexact HO
  iintro ⟨⟨W0, W1, W2⟩, ⟨A3, A4, A7⟩, ⟨⟨B0, B1, B2⟩, ⟨B6, B7, B8⟩⟩, ⟨C1, C2, C3⟩, ⟨A5, A6, A8, B3, B4, B5, S3, S4, S5⟩, W3, ⟨%W', HO⟩⟩
  isplitl [B0 B1 B2 B3 B4 B5 B6 B7 B8 Hg S0 S1 S2 S3 S4 S5 C1 C2 C3 A3 A4 A5 A6 A7 A8]
  · isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [Hg]; · iexact Hg
    isplitl [S0 S1 S2 S3 S4 S5 C1 C2 C3]
    · isplitl [S0 S1 S2 S3 S4 S5]
      · isplitl [S0]; · iexact S0
        isplitl [S1]; · iexact S1
        isplitl [S2]; · iexact S2
        isplitl [S3]; · iexact S3
        isplitl [S4]; · iexact S4
        iexact S5
      isplitl [C1]; · iexact C1
      isplitl [C2]; · iexact C2
      iexact C3
    isplitl [A3]; · iexact A3
    isplitl [A4]; · iexact A4
    isplitl [A5]; · iexact A5
    isplitl [A6]; · iexact A6
    isplitl [A7]; · iexact A7
    iexact A8
  isplitl [HO]
  · iexists W'; isplitr; · ipureintro; exact fun _ _ => Or.inl trivial
    iexact HO
  isplitl [W0]; · iexact W0
  isplitl [W1]; · iexact W1
  isplitl [W2]; · iexact W2
  iexact W3

/-- The body table's row at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The program runs, its arrays end as the proof data say, and every semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

variable {m} in
/-- The arguments end as they were. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

end Cert.Kernel.Hand

end
-- ==== Proof.SameKI.lean ====
/-
  The printed body is the body written in steps.
-/
module

public import proofs.«01_k».proof.KernelIdeal
public import proofs.«01_k».proof.Proof.Gen.KernelIdeal
public import proofs.«01_k».proof.Proof.Gen.KernelIdeal.Skeleton
public import proofs.«01_k».proof.Proof.Steps
public import Idealize.ShloMosaic.Lib.Tactic

@[expose] public section

set_option maxRecDepth 100000

noncomputable section

namespace Cert.KernelIdeal.Hand

open Cert.KernelIdeal Cert.KernelIdeal.Gen Idealize.ShloMosaic Idealize.ShloMosaic.Tactic Idealize.SL.Sem

variable {F : FTy → Type} [FloatOps F]

section
variable
    (arg0 : Memref sig .tc .vmem S36x96x1536 .fp8e4m3) (harg0 : arg0.IsWhole) (arg1 : Memref sig .tc .vmem S36x80x128 .f32)
    (harg1 : arg1.IsWhole) (arg2 : Memref sig .tc .vmem S36x80x128 .f32) (harg2 : arg2.IsWhole)
    (arg3 : Memref sig .tc .hbm S36x1536x512 .fp8e4m3) (harg3 : arg3.IsWhole) (arg4 : Memref sig .tc .hbm S36x1536x512 .fp8e4m3)
    (harg4 : arg4.IsWhole) (arg5 : Memref sig .tc .hbm S36x512 .f32) (harg5 : arg5.IsWhole) (arg6 : Memref sig .tc .hbm S36x512 .f32)
    (harg6 : arg6.IsWhole) (arg7 : Memref sig .tc .hbm S36x512x1536 .fp8e4m3) (harg7 : arg7.IsWhole)
    (arg8 : Memref sig .tc .hbm S36x1536 .f32) (harg8 : arg8.IsWhole) (arg9 : Memref sig .tc .vmem S36x960x128 .f32) (harg9 : arg9.IsWhole)
    (arg10 : Memref sig .tc .vmem S13x1536x512 .fp8e4m3) (harg10 : arg10.IsWhole) (arg11 : Memref sig .tc .vmem S13x1536x512 .fp8e4m3)
    (harg11 : arg11.IsWhole) (arg12 : Memref sig .tc .vmem S13x512x1536 .fp8e4m3) (harg12 : arg12.IsWhole)
    (arg13 : Memref sig .tc .vmem S36x512 .f32) (harg13 : arg13.IsWhole) (arg14 : Memref sig .tc .vmem S36x512 .f32)
    (harg14 : arg14.IsWhole) (arg15 : Memref sig .tc .vmem S36x1536 .f32) (harg15 : arg15.IsWhole)
    (arg16 : Memref sig .tc .vmem S2x96x512 .fp8e4m3) (harg16 : arg16.IsWhole) (arg17 : Memref sig .tc .vmem S2x80x128 .f32)
    (harg17 : arg17.IsWhole) (arg18 : Memref sig .tc .vmem S2x960x128 .f32) (harg18 : arg18.IsWhole) (arg19 : DmaSems sig S6)
    (arg20 : DmaSems sig S13) (arg21 : DmaSems sig S13) (arg22 : DmaSems sig S13)

/-- One trip of the loop: each of the seventeen trips decides its conditions. -/
theorem step_eq (t : Fin k0_t1_loop.trips) :
    k0_t1_body (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32 t ()
      = Ffn.step ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ t := by
  revert t
  show ∀ t : Fin 17, _
  intro t
  fin_cases t <;> sl_kernel_rfl

/-- The whole body, its loop as it is printed. -/
theorem body_eq₀ :
    cc0_expert_choice_moe (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22
      = (Ffn.before ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ >>= fun _ =>
        ((Scf.Loop.for Ffn.loop Ffn.loop_ok ⟨⟩ (k0_t1_body
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32)
          >>= fun _ => Ffn.afterA ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩) >>= Ffn.afterB ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩)) := by
  sl_kernel_rfl

/-- The whole body. -/
theorem body_eq :
    cc0_expert_choice_moe (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22
      = Ffn.body ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ := by
  rw [body_eq₀]
  have hb : (k0_t1_body (F := F)
      arg0 harg0 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 arg20 arg21 arg22 1#32)
      = fun t _ => Ffn.step ⟨
      arg0, arg1, arg2, arg3, harg3, arg4, harg4, arg5, harg5, arg6, harg6, arg7, harg7, arg8, harg8, arg9, arg10, harg10, arg11, harg11,
      arg12, harg12, arg13, harg13, arg14, harg14, arg15, harg15, arg16, harg16, arg17, arg18, arg19, arg20, arg21, arg22⟩ t := funext fun t => funext fun _ => step_eq (t := t) ..
  rw [hb]
  simp only [bind_assoc, Ffn.body, ← Ffn.after_eq]

end

end Cert.KernelIdeal.Hand
-- ==== Proof.LaunchKI.lean ====
/-
  The launch: the body's triple at the operands the launch hands it, and the run of the program from it.
-/
module

public import proofs.«01_k».proof.Proof.Gen.KernelIdeal.Frame
public import proofs.«01_k».proof.Proof.SameKI
public import proofs.«01_k».proof.Proof.Body
public import Idealize.ShloMosaic.Lib.Pipeline.Frame
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The operands and their values -/

/-- What the body is called with at a point. -/
abbrev ops (t : Fin cfg0.N) : Ffn.Operands sig :=
  ⟨win0_0.stage (cfg0.slots t 0), win0_1.stage (cfg0.slots t 1), win0_2.stage (cfg0.slots t 2),
    Memref.whole main_arg3, Memref.isWhole_whole _, Memref.whole main_arg4, Memref.isWhole_whole _,
    Memref.whole main_arg5, Memref.isWhole_whole _, Memref.whole main_arg6, Memref.isWhole_whole _,
    Memref.whole main_arg7, Memref.isWhole_whole _, Memref.whole main_arg8, Memref.isWhole_whole _,
    win0_3.stage (cfg0.slots t 3),
    Memref.whole cc0_scratch0, Memref.isWhole_whole _, Memref.whole cc0_scratch1, Memref.isWhole_whole _,
    Memref.whole cc0_scratch2, Memref.isWhole_whole _, Memref.whole cc0_scratch3, Memref.isWhole_whole _,
    Memref.whole cc0_scratch4, Memref.isWhole_whole _, Memref.whole cc0_scratch5, Memref.isWhole_whole _,
    Memref.whole cc0_scratch6, Memref.isWhole_whole _, Memref.whole cc0_scratch7, Memref.whole cc0_scratch8,
    cc0_scratch9, cc0_scratch10, cc0_scratch11, cc0_scratch12⟩

/-- The values of the arrays as the launch finds them. -/
def vals (c : Dev nD) (t : Fin cfg0.N) : Ffn.Vals F where
  XG := iblk m c 0 t
  XS := iblk m c 1 t
  R := iblk m c 2 t
  WG := V m c main_arg3
  WU := V m c main_arg4
  SG := V m c main_arg5
  SU := V m c main_arg6
  WD := V m c main_arg7
  SD := V m c main_arg8

/-! ## The kernel's own semaphores and the arrays left in memory -/

/-- The kernel's own semaphore cells: the row of six, and the three rows of thirteen. -/
def osem0 : Fin 6 ⊕ (Fin 13 ⊕ (Fin 13 ⊕ Fin 13)) → SemLoc sig :=
  Sum.elim (fun k => .dma (Ffn.cell6 cc0_scratch9 k))
    (Sum.elim (fun k => .dma (Ffn.cell cc0_scratch10 k))
      (Sum.elim (fun k => .dma (Ffn.cell cc0_scratch11 k)) (fun k => .dma (Ffn.cell cc0_scratch12 k))))

theorem ownSemFacts0 : Pipeline.OwnSemFacts spec0 osem0 := by decide +kernel

theorem ownSems00_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), .dma (Ffn.cell6 cc0_scratch9 0)) 0 ∗ semVal ((c : Thread nD τ), .dma (Ffn.cell6 cc0_scratch9 1)) 0
          ∗ semVal ((c : Thread nD τ), .dma (Ffn.cell6 cc0_scratch9 2)) 0 ∗ semVal ((c : Thread nD τ), .dma (Ffn.cell6 cc0_scratch9 3)) 0
          ∗ semVal ((c : Thread nD τ), .dma (Ffn.cell6 cc0_scratch9 4)) 0 ∗ semVal ((c : Thread nD τ), .dma (Ffn.cell6 cc0_scratch9 5)) 0)
        ∗ (bigSep Finset.univ fun k : Fin 13 => semVal ((c : Thread nD τ), .dma (Ffn.cell cc0_scratch10 k)) 0)
        ∗ (bigSep Finset.univ fun k : Fin 13 => semVal ((c : Thread nD τ), .dma (Ffn.cell cc0_scratch11 k)) 0)
        ∗ (bigSep Finset.univ fun k : Fin 13 => semVal ((c : Thread nD τ), .dma (Ffn.cell cc0_scratch12 k)) 0)) := by
  unfold Pipeline.ownSems0
  rw [bigSep_univ_sum, bigSep_univ_sum, bigSep_univ_sum,
    bigSep_univ_eq_bigSepL [(0 : Fin 6), (1 : Fin 6), (2 : Fin 6), (3 : Fin 6), (4 : Fin 6), (5 : Fin 6)] (by decide) (by decide)]
  rfl

/-- The arrays the body copies from. -/
def H0 : Finset (Ref sig .tc) := {main_arg3, main_arg4, main_arg5, main_arg6, main_arg7, main_arg8}
theorem H0_sub : H0 ⊆ Pipeline.restRefs sig spec0 := by decide

theorem hbmPts0_eq (c : Dev nD) :
    (bigSep H0 (fun b => ((c : Thread nD τ).loc b) ↦{fullShare} V m c b) : sProp 𝕄)
      = iprop(owns (c : Thread nD τ) (Memref.whole main_arg3) fullShare (V m c main_arg3) ∗ owns (c : Thread nD τ) (Memref.whole main_arg4) fullShare (V m c main_arg4)
        ∗ owns (c : Thread nD τ) (Memref.whole main_arg5) fullShare (V m c main_arg5) ∗ owns (c : Thread nD τ) (Memref.whole main_arg6) fullShare (V m c main_arg6)
        ∗ owns (c : Thread nD τ) (Memref.whole main_arg7) fullShare (V m c main_arg7) ∗ owns (c : Thread nD τ) (Memref.whole main_arg8) fullShare (V m c main_arg8)) := by
  rw [BI.bigSep_eq_bigSepL_of_eq [main_arg3, main_arg4, main_arg5, main_arg6, main_arg7, main_arg8] (by decide) (by decide)]
  simp only [owns_whole]; rfl

/-- The invariant between the ends of the one point, part by part. -/
theorem PhiD0_eq (c : Dev nD) :
    (Pipeline.ΦD osem0 spec0 H0 (V m) c : sProp 𝕄)
      = iprop(((∃ d, owns (c : Thread nD τ) (Memref.whole cc0_scratch0) fullShare d) ∗ (∃ d, owns (c : Thread nD τ) (Memref.whole cc0_scratch1) fullShare d)
            ∗ (∃ d, owns (c : Thread nD τ) (Memref.whole cc0_scratch2) fullShare d) ∗ (∃ d, owns (c : Thread nD τ) (Memref.whole cc0_scratch3) fullShare d)
            ∗ (∃ d, owns (c : Thread nD τ) (Memref.whole cc0_scratch4) fullShare d) ∗ (∃ d, owns (c : Thread nD τ) (Memref.whole cc0_scratch5) fullShare d)
            ∗ (∃ d, owns (c : Thread nD τ) (Memref.whole cc0_scratch6) fullShare d) ∗ (∃ d, owns (c : Thread nD τ) (Memref.whole cc0_scratch7) fullShare d)
            ∗ (∃ d, owns (c : Thread nD τ) (Memref.whole cc0_scratch8) fullShare d)) ∗ (∃ r, prngReg c r)
        ∗ ((semVal ((c : Thread nD τ), .dma (Ffn.cell6 cc0_scratch9 0)) 0 ∗ semVal ((c : Thread nD τ), .dma (Ffn.cell6 cc0_scratch9 1)) 0
          ∗ semVal ((c : Thread nD τ), .dma (Ffn.cell6 cc0_scratch9 2)) 0 ∗ semVal ((c : Thread nD τ), .dma (Ffn.cell6 cc0_scratch9 3)) 0
          ∗ semVal ((c : Thread nD τ), .dma (Ffn.cell6 cc0_scratch9 4)) 0 ∗ semVal ((c : Thread nD τ), .dma (Ffn.cell6 cc0_scratch9 5)) 0)
        ∗ (bigSep Finset.univ fun k : Fin 13 => semVal ((c : Thread nD τ), .dma (Ffn.cell cc0_scratch10 k)) 0)
        ∗ (bigSep Finset.univ fun k : Fin 13 => semVal ((c : Thread nD τ), .dma (Ffn.cell cc0_scratch11 k)) 0)
        ∗ (bigSep Finset.univ fun k : Fin 13 => semVal ((c : Thread nD τ), .dma (Ffn.cell cc0_scratch12 k)) 0))
        ∗ (owns (c : Thread nD τ) (Memref.whole main_arg3) fullShare (V m c main_arg3) ∗ owns (c : Thread nD τ) (Memref.whole main_arg4) fullShare (V m c main_arg4)
        ∗ owns (c : Thread nD τ) (Memref.whole main_arg5) fullShare (V m c main_arg5) ∗ owns (c : Thread nD τ) (Memref.whole main_arg6) fullShare (V m c main_arg6)
        ∗ owns (c : Thread nD τ) (Memref.whole main_arg7) fullShare (V m c main_arg7) ∗ owns (c : Thread nD τ) (Memref.whole main_arg8) fullShare (V m c main_arg8))) := by
  rw [Pipeline.ΦD_eq, scopedRest0_eq, ownSems00_eq, hbmPts0_eq]; simp only [owns_whole]; try rfl

/-! ## The proof data -/

/-- The three inputs keep their blocks, the result's window ends at the products' result. -/
def dats (_ : Fin 1) (c : Dev nD) : Dat τ (Elt F) Unit ℕ (Pipeline.UD sig nD τ) ℕ cfg0 c where
  A w := V m c (Pipeline.arrRef spec0 w)
  after w t :=
    match w with
    | 0 => iblk m c 0 t
    | 1 => iblk m c 1 t
    | 2 => iblk m c 2 t
    | 3 => Ffn.yAll (vals m c t)
    | ⟨_ + 4, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- An input's staging buffer holds its block when the body runs. -/
theorem before0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; dsimp only) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; dsimp only) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; dsimp only) t d).trans
    (by unfold Dat.fetched Dat.blockOf iblk; rw [A_eq]; try rfl)

/-! ## The body at the point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (Ffn.yAll (vals m c t)))

/-- The body called at the point is the body in steps. -/
theorem bodyAt_eq (t : Fin cfg0.N) : bodyAt0 (F := F) t = Ffn.body (ops t) := body_eq ..

/-- The invariant and the windows are what the body's triple takes, the three semaphores it does not use left over. -/
theorem sound_body (c : Dev nD) (t : Fin cfg0.N) :
    bodyPre m c t ⊢ wp frame (wpE (defs₀ (F := F)) Variants.none c none) Set.univ (bodyAt0 t) (fun _ => bodyPost m c t) := by
  have hb := Ffn.wp_body (Λ := Λ₀) (defs := defs₀ (F := F))
    (countersEmb : UEmb Counters (MT nD τ sig Unit (Elt F) ℕ (Pipeline.UD sig nD τ) ℕ)) Variants.none c none (ops t) (vals m c t)
    (Q := fun _ => bodyPost m c t)
  unfold bodyPre
  rw [bodyAt_eq]
  unfold bodyPost at hb ⊢
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq] at hb ⊢
  unfold Dat.owesAt Pipeline.owesWithin at hb ⊢
  rw [show (dats m 0 c).owed t.castSucc = 0 from rfl] at hb ⊢
  unfold Ffn.Staged Ffn.Weights Ffn.Scratch Ffn.Cells Ffn.Small at hb
  iintro ⟨⟨⟨B0, B1, B2, B3, B4, B5, B6, B7, B8⟩, Hg, ⟨⟨S0, S1, S2, S3, S4, S5⟩, C1, C2, C3⟩, ⟨A3, A4, A5, A6, A7, A8⟩⟩, ⟨%W, %hW, HO⟩,
    ⟨%d0, W0⟩, ⟨%d1, W1⟩, ⟨%d2, W2⟩, ⟨%d3, W3⟩⟩
  rw [before0, before1, before2]
  iapply hb $$ [B0 B1 B2 B3 B4 B5 B6 B7 B8 S3 S4 S5 C1 C2 C3 A3 A4 A5 A6 A7 A8 HO W0 W1 W2 W3]
  · isplitl [W0 W1 W2]
    · isplitl [W0]; · iexact W0
      isplitl [W1]; · iexact W1
      iexact W2
    isplitl [A3 A4 A7]
    · isplitl [A3]; · iexact A3
      isplitl [A4]; · iexact A4
      iexact A7
    isplitl [B0 B1 B2 B6 B7 B8]
    · isplitl [B0 B1 B2]
      · isplitl [B0]; · iexact B0
        isplitl [B1]; · iexact B1
        iexact B2
      isplitl [B6]; · iexact B6
      isplitl [B7]; · iexact B7
      iexact B8
    isplitl [C1 C2 C3]
    · isplitl [C1]; · iexact C1
      isplitl [C2]; · iexact C2
      iexact C3
    isplitl [A5 A6 A8 B3 B4 B5 S3 S4 S5]
    · isplitl [A5]; · iexact A5
      isplitl [A6]; · iexact A6
      isplitl [A8]; · iexact A8
      isplitl [B3]; · iexact B3
      isplitl [B4]; · iexact B4
      isplitl [B5]; · iexact B5
      isplitl [S3]; · iexact S3
      isplitl [S4]; · iexact S4
      iexact S5
    isplitl [W3]; · iexists _; iexact W3
    iexists W; iexact HO
  iintro ⟨⟨W0, W1, W2⟩, ⟨A3, A4, A7⟩, ⟨⟨B0, B1, B2⟩, ⟨B6, B7, B8⟩⟩, ⟨C1, C2, C3⟩, ⟨A5, A6, A8, B3, B4, B5, S3, S4, S5⟩, W3, ⟨%W', HO⟩⟩
  isplitl [B0 B1 B2 B3 B4 B5 B6 B7 B8 Hg S0 S1 S2 S3 S4 S5 C1 C2 C3 A3 A4 A5 A6 A7 A8]
  · isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [Hg]; · iexact Hg
    isplitl [S0 S1 S2 S3 S4 S5 C1 C2 C3]
    · isplitl [S0 S1 S2 S3 S4 S5]
      · isplitl [S0]; · iexact S0
        isplitl [S1]; · iexact S1
        isplitl [S2]; · iexact S2
        isplitl [S3]; · iexact S3
        isplitl [S4]; · iexact S4
        iexact S5
      isplitl [C1]; · iexact C1
      isplitl [C2]; · iexact C2
      iexact C3
    isplitl [A3]; · iexact A3
    isplitl [A4]; · iexact A4
    isplitl [A5]; · iexact A5
    isplitl [A6]; · iexact A6
    isplitl [A7]; · iexact A7
    iexact A8
  isplitl [HO]
  · iexists W'; isplitr; · ipureintro; exact fun _ _ => Or.inl trivial
    iexact HO
  isplitl [W0]; · iexact W0
  isplitl [W1]; · iexact W1
  isplitl [W2]; · iexact W2
  iexact W3

/-- The body table's row at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The program runs, its arrays end as the proof data say, and every semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

variable {m} in
/-- The arguments end as they were. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

end Cert.KernelIdeal.Hand

end
-- ==== Proof.ValueKI.lean ====
/- The kernel's result over the extended reals: the launch has one grid point and every window's block is
   its whole array, so the array handed out ends holding the body's result. -/
module

public import proofs.«01_k».proof.Proof.LaunchKI
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

/-! ## A window's block is its array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem emb0 (t : Fin cfg0.N) (j : S36x96x1536.Idx) : ((cfg0.win 0).blk t).view.emb j = j := by
  obtain ⟨e0, e1, e2⟩ := idx_zero0 t
  funext a; apply Fin.ext
  match a with
  | ⟨0, _⟩ => show win0_0.index t (0 : Fin 3) * 36 + 1 * (j 0).val = (j 0).val; omega
  | ⟨1, _⟩ => show win0_0.index t (1 : Fin 3) * 96 + 1 * (j 1).val = (j 1).val; omega
  | ⟨2, _⟩ => show win0_0.index t (2 : Fin 3) * 1536 + 1 * (j 2).val = (j 2).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb1 (t : Fin cfg0.N) (j : S36x80x128.Idx) : ((cfg0.win 1).blk t).view.emb j = j := by
  obtain ⟨e0, e1, e2⟩ := idx_zero1 t
  funext a; apply Fin.ext
  match a with
  | ⟨0, _⟩ => show win0_1.index t (0 : Fin 3) * 36 + 1 * (j 0).val = (j 0).val; omega
  | ⟨1, _⟩ => show win0_1.index t (1 : Fin 3) * 80 + 1 * (j 1).val = (j 1).val; omega
  | ⟨2, _⟩ => show win0_1.index t (2 : Fin 3) * 128 + 1 * (j 2).val = (j 2).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S36x80x128.Idx) : ((cfg0.win 2).blk t).view.emb j = j := by
  obtain ⟨e0, e1, e2⟩ := idx_zero2 t
  funext a; apply Fin.ext
  match a with
  | ⟨0, _⟩ => show win0_2.index t (0 : Fin 3) * 36 + 1 * (j 0).val = (j 0).val; omega
  | ⟨1, _⟩ => show win0_2.index t (1 : Fin 3) * 80 + 1 * (j 1).val = (j 1).val; omega
  | ⟨2, _⟩ => show win0_2.index t (2 : Fin 3) * 128 + 1 * (j 2).val = (j 2).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S36x960x128.Idx) : ((cfg0.win 3).blk t).view.emb j = j := by
  obtain ⟨e0, e1, e2⟩ := idx_zero3 t
  funext a; apply Fin.ext
  match a with
  | ⟨0, _⟩ => show win0_3.index t (0 : Fin 3) * 36 + 1 * (j 0).val = (j 0).val; omega
  | ⟨1, _⟩ => show win0_3.index t (1 : Fin 3) * 960 + 1 * (j 1).val = (j 1).val; omega
  | ⟨2, _⟩ => show win0_3.index t (2 : Fin 3) * 128 + 1 * (j 2).val = (j 2).val; omega

/-- The values of the arguments as launched. -/
abbrev argVals (c : Dev nD) : Ffn.Vals F where
  XG := m ((c : Thread nD τ).loc main_arg0)
  XS := m ((c : Thread nD τ).loc main_arg1)
  R := m ((c : Thread nD τ).loc main_arg2)
  WG := m ((c : Thread nD τ).loc main_arg3)
  WU := m ((c : Thread nD τ).loc main_arg4)
  SG := m ((c : Thread nD τ).loc main_arg5)
  SU := m ((c : Thread nD τ).loc main_arg6)
  WD := m ((c : Thread nD τ).loc main_arg7)
  SD := m ((c : Thread nD τ).loc main_arg8)

theorem vals_eq (c : Dev nD) (t : Fin cfg0.N) : vals m c t = argVals m c := by
  unfold vals
  rw [iblk0_eq, iblk1_eq, iblk2_eq]

/-! ## The array after the run -/

theorem cut_eq (t : Fin cfg0.N) (X : Vec F S36x960x128 .f32) :
    (cfg0.win 3).cut (grid0.coords t) X = ((cfg0.win 3).blk t).view.read (Elt F) X := by
  funext j
  show X j = X (((cfg0.win 3).blk t).view.emb j)
  rw [emb3]

theorem flushed_eq (c : Dev nD) (t : Fin cfg0.N) :
    (dats m 0 c).flushed 3 t = ((cfg0.win 3).blk t).view.read (Elt F) (Ffn.yAll (argVals m c)) := by
  show (cfg0.win 3).cut (grid0.coords t) (Ffn.yAll (vals m c t)) = _
  rw [vals_eq]
  exact cut_eq t _

theorem covered (i : S36x960x128.Idx) :
    ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

/-- The array handed out after the run. -/
theorem final (c : Dev nD) : (dats m 0 c).arrAt 3 cfg0.N = Ffn.yAll (argVals m c) :=
  (dats m 0 c).arrAt_eq_of_cover 3 (Ffn.yAll (argVals m c)) (fun t _ => flushed_eq m c t) covered

/-- The run's result. -/
theorem result {r : PUnit × MemSt nD τ sig (Elt F)} (h : Pipeline.FramePost cfgs (dats m) 0 (V m) r) (c : Dev nD) :
    r.2.mem ((c : Thread nD τ).loc main_v0) = Ffn.yAll (argVals m c) :=
  ((h c).1 3).trans (final m c)

end Cert.KernelIdeal.Hand

end
-- ==== Proof.Spec.lean ====
/- The expert network, read one number at a time over the extended reals: what the kernel hands out
   at an index, by the operands' entries. -/
module

public import proofs.«01_k».proof.Proof.Down
public import Idealize.ShloMosaic.Lib.Pointwise

@[expose] public section

set_option maxRecDepth 16384

noncomputable section

namespace Ffn

open Idealize.ShloMosaic

variable (T : Vals Ideal)

/-! ## The entries -/

/-- A token's row among the padded rows. -/
def padRow (r : Fin 80) : Fin 96 := ⟨r.val, by omega⟩

/-- Column `l` of the `n`-th five hundred and twelve. -/
def colOf (n : Fin 3) (l : Fin 512) : Fin 1536 := ⟨512 * n.val + l.val, by omega⟩

/-- One entry of a first product. -/
def prodAt (W : S36x1536x512.Idx → EReal) (e : Fin 36) (r : Fin 80) (f : Fin 512) : EReal :=
  ∑ k : Fin 1536, (T.XG (ix3 e (padRow r) k) : EReal) * W (ix3 e k f)

/-- It rescaled by the token's scale and the column's. -/
def scaledAt (W : S36x1536x512.Idx → EReal) (S : S36x512.Idx → EReal) (e : Fin 36) (r : Fin 80) (f : Fin 512) : EReal :=
  prodAt T W e r f * T.XS (ix3 e r 0) * S (ix2 e f)

/-- One entry of the gated activation. -/
def hidAt (e : Fin 36) (r : Fin 80) (f : Fin 512) : EReal :=
  scaledAt T T.WG T.SG e r f * Ideal.logistic (scaledAt T T.WG T.SG e r f) * scaledAt T T.WU T.SU e r f

/-- A row's largest magnitude, over the largest code. -/
def maxAt (e : Fin 36) (r : Fin 80) : EReal :=
  Finset.univ.fold max (Ideal.ofBits .f32 0xFF800000#32) fun f : Fin 512 => max (hidAt T e r f) (-hidAt T e r f)
def quotAt (e : Fin 36) (r : Fin 80) : EReal := maxAt T e r * Ideal.ofBits .f32 0x3B124925#32

/-- The exponent of a row's power-of-two scale. -/
def expoAt (e : Fin 36) (r : Fin 80) : EReal :=
  Scalar.select (IntOp.ori (FloatOps.cmpf (F := Ideal) (φ := .f32) .oeq (quotAt T e r) 0)
      (FloatOps.cmpf (F := Ideal) (φ := .f32) .oeq (quotAt T e r) (Ideal.ofBits .f32 0x7F800000#32)))
    (0 : EReal)
    (Ideal.liftRound Int.floor (Ideal.div (Ideal.log (quotAt T e r)) (Ideal.log (Ideal.ofBits .f32 0x40000000#32))) + 1)

/-- One code. -/
def codeAt (e : Fin 36) (r : Fin 80) (f : Fin 512) : EReal :=
  min (Ideal.ofBits .f32 0x43E00000#32) (max (Ideal.ofBits .f32 0xC3E00000#32) (hidAt T e r f * Ideal.exp2 (0 - expoAt T e r)))

/-- One entry of the result. -/
def yAt (e : Fin 36) (r : Fin 80) (c : Fin 1536) : EReal :=
  (∑ f : Fin 512, codeAt T e r f * T.WD (ix3 e f c)) * Ideal.exp2 (expoAt T e r) * T.SD (ix2 e c) * T.R (ix3 e r 0)

/-! ## The blocks of the operands -/

theorem at2_eq (r : Fin 80) (l : Fin 512) : at2 r l = ix2 r l := by
  funext a; match a with | ⟨0, _⟩ => rfl | ⟨1, _⟩ => rfl

theorem blkW_apply (W : S36x1536x512.Idx → Elt Ideal .fp8e4m3) (e : Fin 36) (k : Fin 1536) (f : Fin 512) :
    blkW (F := Ideal) W e (ix3 0 k f) = W (ix3 e k f) := by
  unfold blkW
  congr 1
  funext a
  apply Fin.ext
  match a with
  | ⟨0, _⟩ => show e.val + 1 * 0 = e.val; omega
  | ⟨1, _⟩ => show 0 + 1 * k.val = k.val; omega
  | ⟨2, _⟩ => show 0 + 1 * f.val = f.val; omega

theorem blkDn_apply (W : S36x512x1536.Idx → Elt Ideal .fp8e4m3) (e : Fin 36) (n : Fin 3) (f l : Fin 512) :
    blkDn (F := Ideal) W e n (ix3 0 f l) = W (ix3 e f (colOf n l)) := by
  unfold blkDn blkD
  congr 1
  funext a
  apply Fin.ext
  match a with
  | ⟨0, _⟩ => show e.val + 1 * (0 + 1 * 0) = e.val; omega
  | ⟨1, _⟩ => show 0 + 1 * (0 + 1 * f.val) = f.val; omega
  | ⟨2, _⟩ => show 0 + 1 * (512 * n.val + 1 * l.val) = 512 * n.val + l.val; omega

theorem blkSd_apply (S : S36x1536.Idx → Elt Ideal .f32) (e : Fin 36) (n : Fin 3) (l : Fin 512) :
    blkSd (F := Ideal) S e n (ix2 0 l) = S (ix2 e (colOf n l)) := by
  unfold blkSd
  congr 1
  funext a
  apply Fin.ext
  match a with
  | ⟨0, _⟩ => show e.val + 1 * 0 = e.val; omega
  | ⟨1, _⟩ => show 512 * n.val + 1 * l.val = 512 * n.val + l.val; omega

theorem blkX_apply (X : S36x96x1536.Idx → Elt Ideal .fp8e4m3) (e : Fin 36) (r : Fin 96) (k : Fin 1536) :
    blkX (F := Ideal) X e (ix3 0 r k) = X (ix3 e r k) := by
  pointwise [blkX]

theorem blkR_apply (X : S36x80x128.Idx → Elt Ideal .f32) (e : Fin 36) (r : Fin 80) (l : Fin 128) :
    blkR (F := Ideal) X e (ix3 0 r l) = X (ix3 e r l) := by
  pointwise [blkR]

theorem blkS_apply (S : S36x512.Idx → Elt Ideal .f32) (e : Fin 36) (f : Fin 512) :
    blkS (F := Ideal) S e (ix2 0 f) = S (ix2 e f) := by
  pointwise [blkS]

/-! ## The steps -/

/-- The gated activation at an index. -/
theorem hid_apply (e : Fin 36) (r : Fin 80) (f : Fin 512) : hid T e (ix2 r f) = hidAt T e r f := by
  pointwise [hid, hidden, scaled, proj, spread, lane0, blkX_apply, blkW_apply, blkR_apply, blkS_apply, hidAt, scaledAt, prodAt,
    Ideal.logistic, padRow, zero_sub]

/-- The exponent at a row. -/
theorem expo_apply (e : Fin 36) (r : Fin 80) : expo (hid T e) (ix2 r 0) = expoAt T e r := by
  pointwise [expo, expoAt, quotAt, maxAt, hid_apply]
  rfl

/-- The scale at a row, in every lane. -/
theorem hScale_apply (e : Fin 36) (r : Fin 80) (l : Fin 128) :
    hScale (hid T e) (ix3 0 r l) = Ideal.exp2 (expoAt T e r) := by
  pointwise [hScale, expo_apply]
  rfl

/-- The code at an index of a token's row. -/
theorem hCodes_apply (e : Fin 36) (r : Fin 80) (f : Fin 512) :
    hCodes (hid T e) (ix3 0 (padRow r) f) = codeAt T e r f := by
  pointwise [hCodes, spread, expo_apply, hid_apply, codeAt, padRow]
  rfl

/-- Five hundred and twelve columns of an expert's result at an index. -/
theorem downOf_apply (e : Fin 36) (n : Fin 3) (r : Fin 80) (l : Fin 512) :
    downOf T e n (ix2 r l) = yAt T e r (colOf n l) := by
  pointwise [downOf, downVal, downFin, downMul, spread, lane0, hScale_apply, blkR_apply, blkSd_apply, blkDn_apply, yAt]
  simp only [show ∀ h x, hCodes (hid T e) (ix3 0 ⟨r.val, h⟩ x) = codeAt T e r x from fun _ => hCodes_apply T e r]

/-! ## The whole result -/

/-- The token and the column that a place of the result holds: twelve rows of 128 lanes to a token. -/
def rowAt (q : Fin 960) : Fin 80 := ⟨q.val / 12, by omega⟩
def colAt (q : Fin 960) (l : Fin 128) : Fin 1536 := ⟨128 * (q.val % 12) + l.val, by omega⟩

/-- The kernel's result at an index. -/
theorem yAll_apply (e : Fin 36) (q : Fin 960) (l : Fin 128) : yAll T (ix3 e q l) = yAt T e (rowAt q) (colAt q l) := by
  have hp : inExp (ix3 e q l) = ix3 0 q l := by
    funext a; match a with | ⟨0, _⟩ => rfl | ⟨1, _⟩ => rfl | ⟨2, _⟩ => rfl
  have hy : ∀ (y : Vec Ideal S1x960x128 .f32), outVal y (ix3 0 q l) = y (ix3 0 q l) := by
    intro y; pointwise [outVal]
  have hc : colOf (nOf (ix3 0 q l)) (lOf (ix3 0 q l)) = colAt q l := by
    apply Fin.ext
    show 512 * (q.val % 12 / 4) + (128 * (q.val % 4) + l.val) = 128 * (q.val % 12) + l.val
    omega
  show outVal (yBlk T e) (inExp (ix3 e q l)) = _
  rw [hp, hy]
  show downOf T e (nOf (ix3 0 q l)) (at2 (rOf (ix3 0 q l)) (lOf (ix3 0 q l))) = _
  rw [at2_eq, downOf_apply, hc]
  rfl

end Ffn
end
-- ==== Proof.RefSpec.lean ====
/- The reference's gated activation and its rows' quantiser, read one number at a time over the extended
   reals. -/
module

public import proofs.«01_k».proof.Proof.Spec
public import proofs.«01_k».proof.Proof.Gen.ReferenceIdeal.Value

@[expose] public section

set_option maxRecDepth 16384

noncomputable section

namespace Ffn

open Idealize.ShloMosaic
open Cert.ReferenceIdeal.Gen

variable (T : Vals Ideal)

/-- The reference's gated activation at an index. -/
theorem ref_hid (e : Fin 36) (r : Fin 80) (f : Fin 512) :
    k0_pay3 (F := Ideal) T.XG T.XS T.WG T.WU T.SG T.SU (ix3 e r f) = hidAt T e r f := by
  pointwise [k0_pay3, hidAt, scaledAt, prodAt, padRow]

/-- A row's largest magnitude. -/
theorem ref_max (e : Fin 36) (r : Fin 80) :
    k0_pay4 (F := Ideal) T.XG T.XS T.WG T.WU T.SG T.SU (ix3 e r 0) = maxAt T e r := by
  pointwise [k0_pay4, ref_hid, maxAt]
  rfl

theorem ref_quot (e : Fin 36) (r : Fin 80) :
    k0_pay5 (F := Ideal) T.XG T.XS T.WG T.WU T.SG T.SU (ix3 e r 0) = quotAt T e r := by
  pointwise [k0_pay5, ref_max, quotAt]

end Ffn
end
-- ==== Proof.RefEq.lean ====
/- The equation: over the extended reals the reference computes what the kernel hands out. -/
module

public import proofs.«01_k».proof.Proof.RefSpec

@[expose] public section

set_option maxRecDepth 16384

noncomputable section

namespace Ffn

open Idealize.ShloMosaic
open Cert.ReferenceIdeal.Gen

variable (T : Vals Ideal)

/-- Where the row's largest magnitude is zero its quotient is zero too, and so is the exponent: the
    reference's second test changes nothing. -/
theorem expo_zero {e : Fin 36} {r : Fin 80} (h : maxAt T e r = 0) : expoAt T e r = 0 := by
  have hq : quotAt T e r = 0 := by rw [quotAt, h, zero_mul]
  unfold expoAt
  rw [hq]
  have h1 : FloatOps.cmpf (F := Ideal) (φ := .f32) .oeq (0 : EReal) (0 : EReal) = 1#1 := by
    show BitVec.ofBool (decide ((0 : EReal) = 0)) = 1#1
    rw [decide_eq_true rfl]
    rfl
  rw [h1]
  have h2 : ∀ b : BitVec 1, IntOp.ori 1#1 b = 1#1 := by decide
  rw [h2]
  rfl

/-- The reference's result at an index. -/
theorem ref_apply (e : Fin 36) (q : Fin 960) (l : Fin 128) :
    Cert.ReferenceIdeal.Value.G9 (F := Ideal) T.XG T.XS T.R T.WG T.WU T.SG T.SU T.WD T.SD (ix3 e q l)
      = yAt T e (rowAt q) (colAt q l) := by
  have hr : ∀ h, (⟨q.val / 12, h⟩ : Fin 80) = rowAt q := fun _ => rfl
  have hc : ∀ h, (⟨q.val % 12 * 128 + l.val, h⟩ : Fin 1536) = colAt q l := fun _ => Fin.ext (by
    show q.val % 12 * 128 + l.val = 128 * (q.val % 12) + l.val
    omega)
  pointwise [Cert.ReferenceIdeal.Value.G9, k0_pay1, k0_pay2, k0_pay6, ref_hid, ref_max, ref_quot]
  simp only [hr, hc]
  by_cases h : maxAt T e (rowAt q) = 0
  · simp only [if_pos h]
    unfold yAt codeAt
    rw [expo_zero T h]
    rfl
  · simp only [if_neg h]
    rfl

/-- The reference computes the kernel's result. -/
theorem ref_eq :
    Cert.ReferenceIdeal.Value.G9 (F := Ideal) T.XG T.XS T.R T.WG T.WU T.SG T.SU T.WD T.SD = yAll T := by
  funext p
  obtain ⟨e, q, l, rfl⟩ : ∃ (e : Fin 36) (q : Fin 960) (l : Fin 128), p = ix3 e q l := ⟨p 0, p 1, p 2, eq_ix3 p⟩
  rw [ref_apply, yAll_apply]

end Ffn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.LaunchK
public import proofs.«01_k».proof.Proof.LaunchKI
public import proofs.«01_k».proof.Proof.ValueKI
public import proofs.«01_k».proof.Proof.RefEq
public import Idealize.ShloMosaic.Adequacy
public import Idealize.ShloMosaic.Init

@[expose] public section

noncomputable section

namespace Cert.Proof

open Idealize.ShloMosaic Idealize.SL.Sem

/-- The kernel's run at the machine's own words leaves the arguments as they were and every
    semaphore at zero. -/
theorem frame_kernel : Cert.quiescent_Kernel := fun m g _ =>
  (θ_run _ _ _).mono (fun _ h => ⟨fun c => Cert.Kernel.Hand.args_kept h.1 c, h.2⟩)
    (Cert.Kernel.Hand.run_main m g)

/-- The same of the kernel read over the extended reals. -/
theorem frame_kernelIdeal : Cert.quiescent_KernelIdeal := fun m g _ =>
  (θ_run _ _ _).mono (fun _ h => ⟨fun c => Cert.KernelIdeal.Hand.args_kept h.1 c, h.2⟩)
    (Cert.KernelIdeal.Hand.run_main m g)

/-- Over the extended reals the kernel and the reference leave the same array, the arguments kept. -/
theorem algebraic : Cert.algebraic_KernelIdeal_ReferenceIdeal := by
  intro m g m' g' _ hm
  refine ⟨fun c => Ffn.yAll (Cert.KernelIdeal.Hand.argVals m c),
    (θ_run _ _ _).mono (fun _ h c => ⟨Cert.KernelIdeal.Hand.result m h.1 c, Cert.KernelIdeal.Hand.args_kept h.1 c⟩)
      (Cert.KernelIdeal.Hand.run_main m g),
    (θ_run _ _ _).mono (fun _ h c => ⟨(h c).1.trans ?_, (h c).2⟩) (Cert.ReferenceIdeal.Value.run m' g')⟩
  obtain ⟨h0, h1, h2, h3, h4, h5, h6, h7, h8⟩ := hm c
  rw [h0, h1, h2, h3, h4, h5, h6, h7, h8]
  exact Ffn.ref_eq (Cert.KernelIdeal.Hand.argVals m c)

/-- All the claims. -/
theorem claim : Cert.Claim :=
  ⟨Cert.Kernel.Gen.facts, Cert.KernelIdeal.Gen.facts, Cert.ReferenceIdeal.Gen.facts,
    frame_kernel, frame_kernelIdeal, fun m g _ => Cert.ReferenceIdeal.Gen.frame m g, trivial, algebraic⟩

end Cert.Proof

end
